-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores2 [hPre_finite_scores2 : Cert.Pre_finite_scores2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_scores2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores2 [hPre_finite_scores2 : Cert.Pre_finite_scores2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_scores2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_scores2 [hKernel2Ideal : Cert.Kernel2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_scores2 [hReference2Ideal : Cert.Reference2Ideal.Facts] [hPre_finite_scores2 : Cert.Pre_finite_scores2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_on_prompt_rows_pre_finite_scores [hKernelIdeal : Cert.KernelIdeal.Facts] [hReferenceIdeal : Cert.ReferenceIdeal.Facts] [hPre_finite_scores : Cert.Pre_finite_scores.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v26) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_scores2 [hKernel2Ideal : Cert.Kernel2Ideal.Facts] [hReference2Ideal : Cert.Reference2Ideal.Facts] [hPre_finite_scores2 : Cert.Pre_finite_scores2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v26_2)) (v1 : (c : Dev Cert.Kernel3Ideal.nD) → Buf (Elt Ideal) ((c.tc : Thread Cert.Kernel3Ideal.nD Cert.Kernel3Ideal.τ).loc Cert.Kernel3Ideal.main_v26_3)) (v2 : (c : Dev Cert.Kernel3Ideal.nD) → Buf (Elt Ideal) ((c.tc : Thread Cert.Kernel3Ideal.nD Cert.Kernel3Ideal.τ).loc Cert.Kernel3Ideal.main_v26_4)) (v3 : (c : Dev Cert.Kernel3Ideal.nD) → Buf (Elt Ideal) ((c.tc : Thread Cert.Kernel3Ideal.nD Cert.Kernel3Ideal.τ).loc Cert.Kernel3Ideal.main_v26_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_2) = v0 c
          ∧ r.2.mem ((c.tc : Thread Cert.Kernel3Ideal.nD Cert.Kernel3Ideal.τ).loc Cert.Kernel3Ideal.main_v26_3) = v1 c
          ∧ r.2.mem ((c.tc : Thread Cert.Kernel3Ideal.nD Cert.Kernel3Ideal.τ).loc Cert.Kernel3Ideal.main_v26_4) = v2 c
          ∧ r.2.mem ((c.tc : Thread Cert.Kernel3Ideal.nD Cert.Kernel3Ideal.τ).loc Cert.Kernel3Ideal.main_v26_5) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_scores2 : Cert.Pre_finite_scores2.Facts) (hOn_prompt_rows : Cert.On_prompt_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_scores2 (hKernel2Ideal := hKernel2Ideal) (hPre_finite_scores2 := hPre_finite_scores2)
    ∧ quiescent_Reference2Ideal (hReference2Ideal := hReference2Ideal)
    ∧ quiescent_Reference2Ideal_pre_finite_scores2 (hReference2Ideal := hReference2Ideal) (hPre_finite_scores2 := hPre_finite_scores2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_on_prompt_rows_pre_finite_scores (hKernelIdeal := hKernelIdeal) (hReferenceIdeal := hReferenceIdeal) (hPre_finite_scores := hPre_finite_scores) (hOn_prompt_rows := hOn_prompt_rows)
    ∧ preserves_Kernel2_Kernel2Ideal
    ∧ algebraic_Kernel2Ideal_Reference2Ideal_pre_finite_scores2 (hKernel2Ideal := hKernel2Ideal) (hReference2Ideal := hReference2Ideal) (hPre_finite_scores2 := hPre_finite_scores2)
    ∧ preserves_Kernel3_Kernel3Ideal
    ∧ algebraic_Kernel3Ideal_Reference3Ideal (hKernel3Ideal := hKernel3Ideal) (hReference3Ideal := hReference3Ideal)
-- ==== On_prompt_rows.lean ====
abbrev S8x32768x64 : Shape := ⟨3, ![8, 32768, 64]⟩
abbrev S2x32768x64 : Shape := ⟨3, ![2, 32768, 64]⟩
abbrev S32768x512 : Shape := ⟨2, ![32768, 512]⟩
abbrev S_ : Shape := ⟨0, ![]⟩

class Facts : Prop where
  bcast_S_S32768x512 : S_.BroadcastsInDim S32768x512 (![] : Fin 0 → Fin S32768x512.rank)

variable [Facts]

def fn {F : FTy → Type} [FloatOps F] (main_arg0 : FVec F S8x32768x64 .f32) (main_arg1 : FVec F S2x32768x64 .f32) (main_arg2 : FVec F S2x32768x64 .f32) : IVec S32768x512 1 :=
  let main_v0 : IVec S32768x512 32 := iotaInDim S32768x512 32 0
  let main_c : IVec S_ 32 := constantI S_ 32 16384#32
  let main_v1 : IVec S32768x512 32 := broadcastInDim S32768x512 ![] bcast_S_S32768x512 main_c
  let main_v2 : IVec S32768x512 1 := cmpi .slt main_v0 main_v1
  main_v2
-- ==== Pre_finite_scores.lean ====
abbrev S8x32768x64 : Shape := ⟨3, ![8, 32768, 64]⟩
abbrev S2x32768x64 : Shape := ⟨3, ![2, 32768, 64]⟩
abbrev S_ : Shape := ⟨0, ![]⟩

class Facts : Prop where
  bcast_S_S8x32768x64 : S_.BroadcastsInDim S8x32768x64 (![] : Fin 0 → Fin S8x32768x64.rank)
  bcast_S_S2x32768x64 : S_.BroadcastsInDim S2x32768x64 (![] : Fin 0 → Fin S2x32768x64.rank)

variable [Facts]

def fn {F : FTy → Type} [FloatOps F] (main_arg0 : FVec F S8x32768x64 .f32) (main_arg1 : FVec F S2x32768x64 .f32) (main_arg2 : FVec F S2x32768x64 .f32) : IVec S8x32768x64 1 × IVec S2x32768x64 1 :=
  let main_v0 : FVec F S8x32768x64 .f32 := Host.absf main_arg0
  let main_cst : FVec F S_ .f32 := constant S_ .f32 0x7F800000#32
  let main_v1 : FVec F S8x32768x64 .f32 := broadcastInDim S8x32768x64 ![] bcast_S_S8x32768x64 main_cst
  let main_v2 : IVec S8x32768x64 1 := cmpf .olt main_v0 main_v1
  let main_v3 : FVec F S2x32768x64 .f32 := Host.absf main_arg1
  let main_cst_0 : FVec F S_ .f32 := constant S_ .f32 0x7F800000#32
  let main_v4 : FVec F S2x32768x64 .f32 := broadcastInDim S2x32768x64 ![] bcast_S_S2x32768x64 main_cst_0
  let main_v5 : IVec S2x32768x64 1 := cmpf .olt main_v3 main_v4
  (main_v2, main_v5)
-- ==== Pre_finite_scores2.lean ====
abbrev S8x32768x64 : Shape := ⟨3, ![8, 32768, 64]⟩
abbrev S2x32768x64 : Shape := ⟨3, ![2, 32768, 64]⟩
abbrev S32768x512 : Shape := ⟨2, ![32768, 512]⟩
abbrev S_ : Shape := ⟨0, ![]⟩

class Facts : Prop where
  bcast_S_S8x32768x64 : S_.BroadcastsInDim S8x32768x64 (![] : Fin 0 → Fin S8x32768x64.rank)
  bcast_S_S2x32768x64 : S_.BroadcastsInDim S2x32768x64 (![] : Fin 0 → Fin S2x32768x64.rank)

variable [Facts]

def fn {F : FTy → Type} [FloatOps F] (main_arg0 : FVec F S8x32768x64 .f32) (main_arg1 : FVec F S2x32768x64 .f32) (main_arg2 : FVec F S2x32768x64 .f32) (main_arg3 : FVec F S32768x512 .bf16) : IVec S8x32768x64 1 × IVec S2x32768x64 1 :=
  let main_v0 : FVec F S8x32768x64 .f32 := Host.absf main_arg0
  let main_cst : FVec F S_ .f32 := constant S_ .f32 0x7F800000#32
  let main_v1 : FVec F S8x32768x64 .f32 := broadcastInDim S8x32768x64 ![] bcast_S_S8x32768x64 main_cst
  let main_v2 : IVec S8x32768x64 1 := cmpf .olt main_v0 main_v1
  let main_v3 : FVec F S2x32768x64 .f32 := Host.absf main_arg1
  let main_cst_0 : FVec F S_ .f32 := constant S_ .f32 0x7F800000#32
  let main_v4 : FVec F S2x32768x64 .f32 := broadcastInDim S2x32768x64 ![] bcast_S_S2x32768x64 main_cst_0
  let main_v5 : IVec S2x32768x64 1 := cmpf .olt main_v3 main_v4
  (main_v2, main_v5)
-- ==== Kernel.lean ====
abbrev S8x32768x64 : Shape := ⟨3, ![8, 32768, 64]⟩
abbrev S2x32768x64 : Shape := ⟨3, ![2, 32768, 64]⟩
abbrev S_ : Shape := ⟨0, ![]⟩
abbrev S2x64x32768 : Shape := ⟨3, ![2, 64, 32768]⟩
abbrev S2x16x32768 : Shape := ⟨3, ![2, 16, 32768]⟩
abbrev S2x80x32768 : Shape := ⟨3, ![2, 80, 32768]⟩
abbrev S32768x512 : Shape := ⟨2, ![32768, 512]⟩
abbrev S4x512x64 : Shape := ⟨3, ![4, 512, 64]⟩
abbrev S1x4096x64 : Shape := ⟨3, ![1, 4096, 64]⟩
abbrev S1x80x4096 : Shape := ⟨3, ![1, 80, 4096]⟩
abbrev S512x256 : Shape := ⟨2, ![512, 256]⟩
abbrev S4x1x512 : Shape := ⟨3, ![4, 1, 512]⟩
abbrev S4x80x512 : Shape := ⟨3, ![4, 80, 512]⟩
abbrev S4096x64 : Shape := ⟨2, ![4096, 64]⟩
abbrev S80x4096 : Shape := ⟨2, ![80, 4096]⟩
abbrev S1x512x64 : Shape := ⟨3, ![1, 512, 64]⟩
abbrev S512x64 : Shape := ⟨2, ![512, 64]⟩
abbrev S1x1x512 : Shape := ⟨3, ![1, 1, 512]⟩
abbrev S1x512 : Shape := ⟨2, ![1, 512]⟩
abbrev S1x80x512 : Shape := ⟨3, ![1, 80, 512]⟩
abbrev S80x512 : Shape := ⟨2, ![80, 512]⟩
abbrev S4096x512 : Shape := ⟨2, ![4096, 512]⟩
abbrev S512 : Shape := ⟨1, ![512]⟩
abbrev S64x512 : Shape := ⟨2, ![64, 512]⟩

abbrev nBuf : Space → Nat
  | .hbm => 19
  | .vmem => 10
  | .smem => 0
  | _ => 0

abbrev bufTy : (tb : Table) → Fin (tcTables nBuf tb) → BufTy
  | .hbm, ⟨0, _⟩ => ⟨S8x32768x64, .f32⟩
  | .hbm, ⟨1, _⟩ => ⟨S2x32768x64, .f32⟩
  | .hbm, ⟨2, _⟩ => ⟨S2x32768x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x32768x64, .f32⟩
  | .hbm, ⟨10, _⟩ => ⟨S8x32768x64, .f32⟩
  | .hbm, ⟨11, _⟩ => ⟨S8x32768x64, .bf16⟩
  | .hbm, ⟨12, _⟩ => ⟨S2x32768x64, .bf16⟩
  | .hbm, ⟨13, _⟩ => ⟨S2x64x32768, .f32⟩
  | .hbm, ⟨14, _⟩ => ⟨S2x64x32768, .bf16⟩
  | .hbm, ⟨15, _⟩ => ⟨S_, .bf16⟩
  | .hbm, ⟨16, _⟩ => ⟨S2x16x32768, .bf16⟩
  | .hbm, ⟨17, _⟩ => ⟨S2x80x32768, .bf16⟩
  | .hbm, ⟨18, _⟩ => ⟨S32768x512, .bf16⟩
  | .local _ .vmem, ⟨0, _⟩ => ⟨S4x512x64, .bf16⟩
  | .local _ .vmem, ⟨1, _⟩ => ⟨S4x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x80x4096, .bf16⟩
  | .local _ .vmem, ⟨5, _⟩ => ⟨S1x80x4096, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | _, _ => ⟨S8x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 1, 32, 4], ![false, false, false, false]⟩

def k0_cond2 (i : grid0.Coords) : BitVec 1 :=
  let arg3 : BitVec 32 := BitVec.ofNat 32 (i 3).val
  let c3_i32 : BitVec 32 := 3#32
  let v111 : BitVec 1 := Scalar.cmpi .eq arg3 c3_i32
  let v112 : BitVec 32 := Scalar.extui v111
  let c0_i32_74 : BitVec 32 := 0#32
  let v113 : BitVec 1 := Scalar.cmpi .ne v112 c0_i32_74
  v113

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg1 c32_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg3
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg3
  let c0_i32_0 : BitVec 32 := 0#32
  let c0_i32_1 : BitVec 32 := 0#32
  ![arg0.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg1 c32_i32
  let c0_i32 : BitVec 32 := 0#32
  let v1 : BitVec 32 := Scalar.addi c0_i32 v0
  let v2 : BitVec 32 := Scalar.addi v1 arg2
  let c0_i32_0 : BitVec 32 := 0#32
  ![v2.toNat, arg0.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S8x32768x64 : Shape := ⟨3, ![8, 32768, 64]⟩
abbrev S2x32768x64 : Shape := ⟨3, ![2, 32768, 64]⟩
abbrev S8x16384x64 : Shape := ⟨3, ![8, 16384, 64]⟩
abbrev S1x8x16384x64 : Shape := ⟨4, ![1, 8, 16384, 64]⟩
abbrev S2x16384x64 : Shape := ⟨3, ![2, 16384, 64]⟩
abbrev S1x2x16384x64 : Shape := ⟨4, ![1, 2, 16384, 64]⟩
abbrev S_ : Shape := ⟨0, ![]⟩
abbrev S1x2x4x16384x64 : Shape := ⟨5, ![1, 2, 4, 16384, 64]⟩
abbrev S1x2x4x16384x16384 : Shape := ⟨5, ![1, 2, 4, 16384, 16384]⟩
abbrev S1x2x4x16384 : Shape := ⟨4, ![1, 2, 4, 16384]⟩
abbrev S1x2x4x16384x1 : Shape := ⟨5, ![1, 2, 4, 16384, 1]⟩
abbrev S1x2x64x4x16384 : Shape := ⟨5, ![1, 2, 64, 4, 16384]⟩
abbrev S1x16384x2x4x64 : Shape := ⟨5, ![1, 16384, 2, 4, 64]⟩
abbrev S16384x512 : Shape := ⟨2, ![16384, 512]⟩
abbrev S32768x512 : Shape := ⟨2, ![32768, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x32768x64, .f32⟩
  | .hbm, ⟨1, _⟩ => ⟨S2x32768x64, .f32⟩
  | .hbm, ⟨2, _⟩ => ⟨S2x32768x64, .f32⟩
  | .hbm, ⟨3, _⟩ => ⟨S8x16384x64, .f32⟩
  | .hbm, ⟨4, _⟩ => ⟨S1x8x16384x64, .f32⟩
  | .hbm, ⟨5, _⟩ => ⟨S2x16384x64, .f32⟩
  | .hbm, ⟨6, _⟩ => ⟨S1x2x16384x64, .f32⟩
  | .hbm, ⟨7, _⟩ => ⟨S2x16384x64, .f32⟩
  | .hbm, ⟨8, _⟩ => ⟨S1x2x16384x64, .f32⟩
  | .hbm, ⟨9, _⟩ => ⟨S_, .f32⟩
  | .hbm, ⟨10, _⟩ => ⟨S1x8x16384x64, .f32⟩
  | .hbm, ⟨11, _⟩ => ⟨S1x8x16384x64, .f32⟩
  | .hbm, ⟨12, _⟩ => ⟨S1x2x4x16384x64, .f32⟩
  | .hbm, ⟨13, _⟩ => ⟨S1x2x4x16384x16384, .f32⟩
  | .hbm, ⟨14, _⟩ => ⟨S_, .f32⟩
  | .hbm, ⟨15, _⟩ => ⟨S1x2x4x16384, .f32⟩
  | .hbm, ⟨16, _⟩ => ⟨S_, .f32⟩
  | .hbm, ⟨17, _⟩ => ⟨S1x2x4x16384, .f32⟩
  | .hbm, ⟨18, _⟩ => ⟨S1x2x4x16384, .f32⟩
  | .hbm, ⟨19, _⟩ => ⟨S1x2x4x16384x1, .f32⟩
  | .hbm, ⟨20, _⟩ => ⟨S1x2x4x16384x16384, .f32⟩
  | .hbm, ⟨21, _⟩ => ⟨S1x2x4x16384x16384, .f32⟩
  | .hbm, ⟨22, _⟩ => ⟨S1x2x4x16384x16384, .f32⟩
  | .hbm, ⟨23, _⟩ => ⟨S_, .f32⟩
  | .hbm, ⟨24, _⟩ => ⟨S1x2x4x16384, .f32⟩
  | .hbm, ⟨25, _⟩ => ⟨S1x2x4x16384x1, .f32⟩
  | .hbm, ⟨26, _⟩ => ⟨S1x2x4x16384x16384, .f32⟩
  | .hbm, ⟨27, _⟩ => ⟨S1x2x4x16384x16384, .f32⟩
  | .hbm, ⟨28, _⟩ => ⟨S1x2x64x4x16384, .f32⟩
  | .hbm, ⟨29, _⟩ => ⟨S1x16384x2x4x64, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S32768x512, .f32⟩
  | .hbm, ⟨34, _⟩ => ⟨S32768x512, .bf16⟩
  | _, _ => ⟨S8x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel2.lean ====
abbrev S8x32768x64 : Shape := ⟨3, ![8, 32768, 64]⟩
abbrev S2x32768x64 : Shape := ⟨3, ![2, 32768, 64]⟩
abbrev S32768x512 : Shape := ⟨2, ![32768, 512]⟩
abbrev S_ : Shape := ⟨0, ![]⟩
abbrev S2x64x32768 : Shape := ⟨3, ![2, 64, 32768]⟩
abbrev S2x16x32768 : Shape := ⟨3, ![2, 16, 32768]⟩
abbrev S2x80x32768 : Shape := ⟨3, ![2, 80, 32768]⟩
abbrev S4x512x64 : Shape := ⟨3, ![4, 512, 64]⟩
abbrev S1x4096x64 : Shape := ⟨3, ![1, 4096, 64]⟩
abbrev S1x80x4096 : Shape := ⟨3, ![1, 80, 4096]⟩
abbrev S512x256 : Shape := ⟨2, ![512, 256]⟩
abbrev S4x1x512 : Shape := ⟨3, ![4, 1, 512]⟩
abbrev S4x80x512 : Shape := ⟨3, ![4, 80, 512]⟩
abbrev S4096x64 : Shape := ⟨2, ![4096, 64]⟩
abbrev S80x4096 : Shape := ⟨2, ![80, 4096]⟩
abbrev S1x512x64 : Shape := ⟨3, ![1, 512, 64]⟩
abbrev S512x64 : Shape := ⟨2, ![512, 64]⟩
abbrev S1x1x512 : Shape := ⟨3, ![1, 1, 512]⟩
abbrev S1x512 : Shape := ⟨2, ![1, 512]⟩
abbrev S1x80x512 : Shape := ⟨3, ![1, 80, 512]⟩
abbrev S80x512 : Shape := ⟨2, ![80, 512]⟩
abbrev S4096x512 : Shape := ⟨2, ![4096, 512]⟩
abbrev S512 : Shape := ⟨1, ![512]⟩
abbrev S64x512 : Shape := ⟨2, ![64, 512]⟩

abbrev nBuf : Space → Nat
  | .hbm => 20
  | .vmem => 10
  | .smem => 0
  | _ => 0

abbrev bufTy : (tb : Table) → Fin (tcTables nBuf tb) → BufTy
  | .hbm, ⟨0, _⟩ => ⟨S8x32768x64, .f32⟩
  | .hbm, ⟨1, _⟩ => ⟨S2x32768x64, .f32⟩
  | .hbm, ⟨2, _⟩ => ⟨S2x32768x64, .f32⟩
  | .hbm, ⟨3, _⟩ => ⟨S32768x512, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x32768x64, .f32⟩
  | .hbm, ⟨11, _⟩ => ⟨S8x32768x64, .f32⟩
  | .hbm, ⟨12, _⟩ => ⟨S8x32768x64, .bf16⟩
  | .hbm, ⟨13, _⟩ => ⟨S2x32768x64, .bf16⟩
  | .hbm, ⟨14, _⟩ => ⟨S2x64x32768, .f32⟩
  | .hbm, ⟨15, _⟩ => ⟨S2x64x32768, .bf16⟩
  | .hbm, ⟨16, _⟩ => ⟨S_, .bf16⟩
  | .hbm, ⟨17, _⟩ => ⟨S2x16x32768, .bf16⟩
  | .hbm, ⟨18, _⟩ => ⟨S2x80x32768, .bf16⟩
  | .hbm, ⟨19, _⟩ => ⟨S32768x512, .bf16⟩
  | .local _ .vmem, ⟨0, _⟩ => ⟨S4x512x64, .bf16⟩
  | .local _ .vmem, ⟨1, _⟩ => ⟨S4x512x64, .bf16⟩
  | .local _ .vmem, ⟨2, _⟩ => ⟨S1x4096x64, .bf16⟩
  | .local _ .vmem, ⟨3, _⟩ => ⟨S1x4096x64, .bf16⟩
  | .local _ .vmem, ⟨4, _⟩ => ⟨S1x80x4096, .bf16⟩
  | .local _ .vmem, ⟨5, _⟩ => ⟨S1x80x4096, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | _, _ => ⟨S8x32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 8, 1], ![false, false, false, false]⟩

def k0_cond2 (i : grid0.Coords) : BitVec 1 :=
  let arg3 : BitVec 32 := BitVec.ofNat 32 (i 3).val
  let c0_i32_74 : BitVec 32 := 0#32
  let v111 : BitVec 1 := Scalar.cmpi .eq arg3 c0_i32_74
  let v112 : BitVec 32 := Scalar.extui v111
  let c0_i32_75 : BitVec 32 := 0#32
  let v113 : BitVec 1 := Scalar.cmpi .ne v112 c0_i32_75
  v113

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let c32_i32 : BitVec 32 := 32#32
  let v1 : BitVec 32 := Scalar.addi c32_i32 v0
  let v2 : BitVec 32 := Scalar.addi v1 arg2
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let c4_i32 : BitVec 32 := 4#32
  let v1 : BitVec 32 := Scalar.addi c4_i32 v0
  let v2 : BitVec 32 := Scalar.addi v1 arg3
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let c4_i32 : BitVec 32 := 4#32
  let v1 : BitVec 32 := Scalar.addi c4_i32 v0
  let v2 : BitVec 32 := Scalar.addi v1 arg3
  let c0_i32 : BitVec 32 := 0#32
  let c0_i32_0 : BitVec 32 := 0#32
  ![arg0.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let c32_i32 : BitVec 32 := 32#32
  let v1 : BitVec 32 := Scalar.addi c32_i32 v0
  let v2 : BitVec 32 := Scalar.addi v1 arg2
  let c0_i32 : BitVec 32 := 0#32
  ![v2.toNat, arg0.toNat]

abbrev stage0_0 : Fin 2 → Memref sig .tc .vmem S4x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference2Ideal.lean ====
abbrev S8x32768x64 : Shape := ⟨3, ![8, 32768, 64]⟩
abbrev S2x32768x64 : Shape := ⟨3, ![2, 32768, 64]⟩
abbrev S32768x512 : Shape := ⟨2, ![32768, 512]⟩
abbrev S8x16384x64 : Shape := ⟨3, ![8, 16384, 64]⟩
abbrev S8x4x4096x64 : Shape := ⟨4, ![8, 4, 4096, 64]⟩
abbrev S4x8x4096x64 : Shape := ⟨4, ![4, 8, 4096, 64]⟩
abbrev S2x16384x64 : Shape := ⟨3, ![2, 16384, 64]⟩
abbrev S2x4x4096x64 : Shape := ⟨4, ![2, 4, 4096, 64]⟩
abbrev S4x2x4096x64 : Shape := ⟨4, ![4, 2, 4096, 64]⟩
abbrev S_ : Shape := ⟨0, ![]⟩
abbrev S4x2x4x4096x64 : Shape := ⟨5, ![4, 2, 4, 4096, 64]⟩
abbrev S4x2x4x4096x4096 : Shape := ⟨5, ![4, 2, 4, 4096, 4096]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S4x4096x2x4x64 : Shape := ⟨5, ![4, 4096, 2, 4, 64]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x32768x64, .f32⟩
  | .hbm, ⟨1, _⟩ => ⟨S2x32768x64, .f32⟩
  | .hbm, ⟨2, _⟩ => ⟨S2x32768x64, .f32⟩
  | .hbm, ⟨3, _⟩ => ⟨S32768x512, .bf16⟩
  | .hbm, ⟨4, _⟩ => ⟨S8x16384x64, .f32⟩
  | .hbm, ⟨5, _⟩ => ⟨S8x4x4096x64, .f32⟩
  | .hbm, ⟨6, _⟩ => ⟨S4x8x4096x64, .f32⟩
  | .hbm, ⟨7, _⟩ => ⟨S2x16384x64, .f32⟩
  | .hbm, ⟨8, _⟩ => ⟨S2x4x4096x64, .f32⟩
  | .hbm, ⟨9, _⟩ => ⟨S4x2x4096x64, .f32⟩
  | .hbm, ⟨10, _⟩ => ⟨S2x16384x64, .f32⟩
  | .hbm, ⟨11, _⟩ => ⟨S2x4x4096x64, .f32⟩
  | .hbm, ⟨12, _⟩ => ⟨S4x2x4096x64, .f32⟩
  | .hbm, ⟨13, _⟩ => ⟨S_, .f32⟩
  | .hbm, ⟨14, _⟩ => ⟨S4x8x4096x64, .f32⟩
  | .hbm, ⟨15, _⟩ => ⟨S4x8x4096x64, .f32⟩
  | .hbm, ⟨16, _⟩ => ⟨S4x2x4x4096x64, .f32⟩
  | .hbm, ⟨17, _⟩ => ⟨S4x2x4x4096x4096, .f32⟩
  | .hbm, ⟨18, _⟩ => ⟨S_, .f32⟩
  | .hbm, ⟨19, _⟩ => ⟨S4x2x4x4096, .f32⟩
  | .hbm, ⟨20, _⟩ => ⟨S_, .f32⟩
  | .hbm, ⟨21, _⟩ => ⟨S4x2x4x4096, .f32⟩
  | .hbm, ⟨22, _⟩ => ⟨S4x2x4x4096, .f32⟩
  | .hbm, ⟨23, _⟩ => ⟨S4x2x4x4096x1, .f32⟩
  | .hbm, ⟨24, _⟩ => ⟨S4x2x4x4096x4096, .f32⟩
  | .hbm, ⟨25, _⟩ => ⟨S4x2x4x4096x4096, .f32⟩
  | .hbm, ⟨26, _⟩ => ⟨S4x2x4x4096x4096, .f32⟩
  | .hbm, ⟨27, _⟩ => ⟨S_, .f32⟩
  | .hbm, ⟨28, _⟩ => ⟨S4x2x4x4096, .f32⟩
  | .hbm, ⟨29, _⟩ => ⟨S4x2x4x4096x1, .f32⟩
  | .hbm, ⟨30, _⟩ => ⟨S4x2x4x4096x4096, .f32⟩
  | .hbm, ⟨31, _⟩ => ⟨S4x2x4x4096x4096, .f32⟩
  | .hbm, ⟨32, _⟩ => ⟨S4x2x64x4x4096, .f32⟩
  | .hbm, ⟨33, _⟩ => ⟨S4x4096x2x4x64, .f32⟩
  | .hbm, ⟨34, _⟩ => ⟨S16384x512, .f32⟩
  | .hbm, ⟨35, _⟩ => ⟨S16384x512, .bf16⟩
  | .hbm, ⟨36, _⟩ => ⟨S16384x512, .bf16⟩
  | .hbm, ⟨37, _⟩ => ⟨S32768x512, .bf16⟩
  | _, _ => ⟨S8x32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S32768x1024 : Shape := ⟨2, ![32768, 1024]⟩
abbrev S8x6x1024 : Shape := ⟨3, ![8, 6, 1024]⟩
abbrev S1024 : Shape := ⟨1, ![1024]⟩
abbrev S1024x4352 : Shape := ⟨2, ![1024, 4352]⟩
abbrev S64 : Shape := ⟨1, ![64]⟩
abbrev S32768x64 : Shape := ⟨2, ![32768, 64]⟩
abbrev S512x512 : Shape := ⟨2, ![512, 512]⟩
abbrev S_ : Shape := ⟨0, ![]⟩
abbrev S16 : Shape := ⟨1, ![16]⟩
abbrev S32 : Shape := ⟨1, ![32]⟩
abbrev S1x32 : Shape := ⟨2, ![1, 32]⟩
abbrev S2x32 : Shape := ⟨2, ![2, 32]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S8x32768x64 : Shape := ⟨3, ![8, 32768, 64]⟩
abbrev S2x32768x64 : Shape := ⟨3, ![2, 32768, 64]⟩
abbrev S2x80x32768 : Shape := ⟨3, ![2, 80, 32768]⟩
abbrev S32768x256 : Shape := ⟨2, ![32768, 256]⟩
abbrev S32768x3072 : Shape := ⟨2, ![32768, 3072]⟩
abbrev S512x1024 : Shape := ⟨2, ![512, 1024]⟩
abbrev S1x6x1024 : Shape := ⟨3, ![1, 6, 1024]⟩
abbrev S1 : Shape := ⟨1, ![1]⟩
abbrev S512x128 : Shape := ⟨2, ![512, 128]⟩
abbrev S8x512x64 : Shape := ⟨3, ![8, 512, 64]⟩
abbrev S2x512x64 : Shape := ⟨3, ![2, 512, 64]⟩
abbrev S2x80x512 : Shape := ⟨3, ![2, 80, 512]⟩
abbrev S512x256 : Shape := ⟨2, ![512, 256]⟩
abbrev S512x3072 : Shape := ⟨2, ![512, 3072]⟩
abbrev S6x1024 : Shape := ⟨2, ![6, 1024]⟩
abbrev S512x1 : Shape := ⟨2, ![512, 1]⟩
abbrev S1024x512 : Shape := ⟨2, ![1024, 512]⟩
abbrev S512x64 : Shape := ⟨2, ![512, 64]⟩
abbrev S1x512x64 : Shape := ⟨3, ![1, 512, 64]⟩
abbrev S1024x256 : Shape := ⟨2, ![1024, 256]⟩
abbrev S128x128 : Shape := ⟨2, ![128, 128]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S1024x1024 : Shape := ⟨2, ![1024, 1024]⟩

abbrev nBuf : Space → Nat
  | .hbm => 43
  | .vmem => 25
  | .smem => 1
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S32768x64, .f32⟩
  | .hbm, ⟨7, _⟩ => ⟨S32768x64, .f32⟩
  | .hbm, ⟨8, _⟩ => ⟨S512x512, .bf16⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S32, .f32⟩
  | .hbm, ⟨15, _⟩ => ⟨S1x32, .f32⟩
  | .hbm, ⟨16, _⟩ => ⟨S2x32, .f32⟩
  | .hbm, ⟨17, _⟩ => ⟨S64, .f32⟩
  | .hbm, ⟨18, _⟩ => ⟨S1x1024, .f32⟩
  | .hbm, ⟨19, _⟩ => ⟨S1024x4352, .bf16⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x64, .f32⟩
  | .hbm, ⟨25, _⟩ => ⟨S2x64, .f32⟩
  | .hbm, ⟨26, _⟩ => ⟨S128, .f32⟩
  | .hbm, ⟨27, _⟩ => ⟨S1x128, .f32⟩
  | .hbm, ⟨28, _⟩ => ⟨S1x32768x1x64, .f32⟩
  | .hbm, ⟨29, _⟩ => ⟨S1x32768x2x64, .f32⟩
  | .hbm, ⟨30, _⟩ => ⟨S32768x128, .f32⟩
  | .hbm, ⟨31, _⟩ => ⟨S1x64, .f32⟩
  | .hbm, ⟨32, _⟩ => ⟨S32768x64, .f32⟩
  | .hbm, ⟨33, _⟩ => ⟨S32768x64, .f32⟩
  | .hbm, ⟨34, _⟩ => ⟨S1x32768x1x64, .f32⟩
  | .hbm, ⟨35, _⟩ => ⟨S1x32768x2x64, .f32⟩
  | .hbm, ⟨36, _⟩ => ⟨S32768x128, .f32⟩
  | .hbm, ⟨37, _⟩ => ⟨S8x32768x64, .bf16⟩
  | .hbm, ⟨38, _⟩ => ⟨S2x32768x64, .bf16⟩
  | .hbm, ⟨39, _⟩ => ⟨S2x80x32768, .bf16⟩
  | .hbm, ⟨40, _⟩ => ⟨S32768x256, .f32⟩
  | .hbm, ⟨41, _⟩ => ⟨S32768x256, .f32⟩
  | .hbm, ⟨42, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4352, .bf16⟩
  | .local _ .vmem, ⟨6, _⟩ => ⟨S1x512, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S8x512x64, .bf16⟩
  | .local _ .vmem, ⟨14, _⟩ => ⟨S8x512x64, .bf16⟩
  | .local _ .vmem, ⟨15, _⟩ => ⟨S2x512x64, .bf16⟩
  | .local _ .vmem, ⟨16, _⟩ => ⟨S2x512x64, .bf16⟩
  | .local _ .vmem, ⟨17, _⟩ => ⟨S2x80x512, .bf16⟩
  | .local _ .vmem, ⟨18, _⟩ => ⟨S2x80x512, .bf16⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x3072, .bf16⟩
  | .local _ .vmem, ⟨24, _⟩ => ⟨S512x3072, .bf16⟩
  | .local _ .smem, ⟨0, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev main_v26_5 : Ref sig .tc := ⟨.hbm, 42, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4352 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S8x6x1024 : Shape := ⟨3, ![8, 6, 1024]⟩
abbrev S1024 : Shape := ⟨1, ![1024]⟩
abbrev S1024x4352 : Shape := ⟨2, ![1024, 4352]⟩
abbrev S64 : Shape := ⟨1, ![64]⟩
abbrev S32768x64 : Shape := ⟨2, ![32768, 64]⟩
abbrev S512x512 : Shape := ⟨2, ![512, 512]⟩
abbrev S8x1x1024 : Shape := ⟨3, ![8, 1, 1024]⟩
abbrev S8x1024 : Shape := ⟨2, ![8, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x1024 : Shape := ⟨2, ![4, 1024]⟩
abbrev S4x1x1024 : Shape := ⟨3, ![4, 1, 1024]⟩
abbrev S1024x3712 : Shape := ⟨2, ![1024, 3712]⟩
abbrev S32768x3712 : Shape := ⟨2, ![32768, 3712]⟩
abbrev S32768x128 : Shape := ⟨2, ![32768, 128]⟩
abbrev S32768x256 : Shape := ⟨2, ![32768, 256]⟩
abbrev S32768x3072 : Shape := ⟨2, ![32768, 3072]⟩
abbrev S32768x2x64 : Shape := ⟨3, ![32768, 2, 64]⟩
abbrev S2x64x32768 : Shape := ⟨3, ![2, 64, 32768]⟩
abbrev S2x16x32768 : Shape := ⟨3, ![2, 16, 32768]⟩
abbrev S2x80x32768 : Shape := ⟨3, ![2, 80, 32768]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6x1024, .f32⟩
  | .hbm, ⟨2, _⟩ => ⟨S1024, .f32⟩
  | .hbm, ⟨3, _⟩ => ⟨S1024x4352, .f32⟩
  | .hbm, ⟨4, _⟩ => ⟨S64, .f32⟩
  | .hbm, ⟨5, _⟩ => ⟨S64, .f32⟩
  | .hbm, ⟨6, _⟩ => ⟨S32768x64, .f32⟩
  | .hbm, ⟨7, _⟩ => ⟨S32768x64, .f32⟩
  | .hbm, ⟨8, _⟩ => ⟨S512x512, .bf16⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S4x1024, .f32⟩
  | .hbm, ⟨58, _⟩ => ⟨S4x1x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x4096x1024, .f32⟩
  | .hbm, ⟨63, _⟩ => ⟨S4x4096x1024, .f32⟩
  | .hbm, ⟨64, _⟩ => ⟨S4x1024, .f32⟩
  | .hbm, ⟨65, _⟩ => ⟨S4x1x1024, .f32⟩
  | .hbm, ⟨66, _⟩ => ⟨S4x4096x1024, .f32⟩
  | .hbm, ⟨67, _⟩ => ⟨S4x4096x1024, .f32⟩
  | .hbm, ⟨68, _⟩ => ⟨S16384x1024, .f32⟩
  | .hbm, ⟨69, _⟩ => ⟨S32768x1024, .f32⟩
  | .hbm, ⟨70, _⟩ => ⟨S1024x3712, .f32⟩
  | .hbm, ⟨71, _⟩ => ⟨S32768x3712, .f32⟩
  | .hbm, ⟨72, _⟩ => ⟨S32768x128, .f32⟩
  | .hbm, ⟨73, _⟩ => ⟨S32768x256, .f32⟩
  | .hbm, ⟨74, _⟩ => ⟨S32768x256, .f32⟩
  | .hbm, ⟨75, _⟩ => ⟨S32768x3072, .f32⟩
  | .hbm, ⟨76, _⟩ => ⟨S32768x2x64, .f32⟩
  | .hbm, ⟨77, _⟩ => ⟨S2x64x32768, .f32⟩
  | .hbm, ⟨78, _⟩ => ⟨S_, .f32⟩
  | .hbm, ⟨79, _⟩ => ⟨S2x16x32768, .f32⟩
  | .hbm, ⟨80, _⟩ => ⟨S2x80x32768, .f32⟩
  | .hbm, ⟨81, _⟩ => ⟨S2x80x32768, .bf16⟩
  | .hbm, ⟨82, _⟩ => ⟨S32768x3072, .f32⟩
  | .hbm, ⟨83, _⟩ => ⟨S32768x3072, .f32⟩
  | .hbm, ⟨84, _⟩ => ⟨S_, .f32⟩
  | .hbm, ⟨85, _⟩ => ⟨S32768x3072, .f32⟩
  | .hbm, ⟨86, _⟩ => ⟨S32768x3072, .f32⟩
  | .hbm, ⟨87, _⟩ => ⟨S_, .f32⟩
  | .hbm, ⟨88, _⟩ => ⟨S32768x3072, .f32⟩
  | .hbm, ⟨89, _⟩ => ⟨S32768x3072, .f32⟩
  | .hbm, ⟨90, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Proof.Softmax.lean ====
/-
  Softmax-weighted sums over the extended reals, computed block by block.

  A query's scores are real numbers and its values are extended reals. `soft s v` is the weighted sum
  `∑ k, v k · (e^(s k) / ∑ j, e^(s j))`. The blockwise computation keeps a pair (m, acc): `m` is a shift, the largest
  base-2 score seen so far, and `acc` is `∑ v k · 2^(t k − m)` over the keys seen so far. Every lemma here holds for any
  real shift, so nothing is ever said about `m` being a maximum.
-/
module

public import Idealize.ShloMosaic.PureOps.Ideal
public import Mathlib.Analysis.SpecialFunctions.Pow.Real

@[expose] public section

noncomputable section

namespace Cert.Proof.Softmax

open Idealize.ShloMosaic

/-- A sum of extended reals times a nonnegative real distributes over the sum. -/
theorem sum_mul_coe {ι : Type} (s : Finset ι) (f : ι → EReal) {a : ℝ} (ha : 0 ≤ a) :
    (∑ k ∈ s, f k) * (a : EReal) = ∑ k ∈ s, f k * (a : EReal) := by
  classical
  induction s using Finset.induction_on with
  | empty => simp
  | insert k s hk ih =>
    rw [Finset.sum_insert hk, Finset.sum_insert hk,
      EReal.right_distrib_of_nonneg_of_ne_top (EReal.coe_nonneg.mpr ha) (EReal.coe_ne_top a), ih]

/-- A finite sum of real numbers, taken in the extended reals. -/
theorem coe_sum {ι : Type} (s : Finset ι) (f : ι → ℝ) : (∑ k ∈ s, (f k : EReal)) = ((∑ k ∈ s, f k : ℝ) : EReal) := by
  classical
  induction s using Finset.induction_on with
  | empty => simp
  | insert k s hk ih => rw [Finset.sum_insert hk, Finset.sum_insert hk, ih, EReal.coe_add]

/-- The power of two of a real exponent. -/
theorem exp2_coe (r : ℝ) : Ideal.exp2 (r : EReal) = (((2 : ℝ) ^ r : ℝ) : EReal) := rfl

/-- The exponential of a real number. -/
theorem exp_coe (r : ℝ) : Ideal.exp (r : EReal) = ((Real.exp r : ℝ) : EReal) := rfl

/-- The largest of a nonempty finite family of reals, started from −∞, is a real. -/
theorem fold_max_real {ι : Type} [Fintype ι] [Nonempty ι] (f : ι → ℝ) :
    ∃ M : ℝ, Finset.univ.fold max (⊥ : EReal) (fun k => (f k : EReal)) = M := by
  classical
  suffices h : ∀ s : Finset ι, s.Nonempty → ∃ M : ℝ, s.fold max (⊥ : EReal) (fun k => (f k : EReal)) = M from
    h _ Finset.univ_nonempty
  intro s hs
  induction hs using Finset.Nonempty.cons_induction with
  | singleton a => exact ⟨f a, by simp⟩
  | cons a s ha _ ih =>
    obtain ⟨M, hM⟩ := ih
    exact ⟨max (f a) M, by rw [Finset.fold_cons, hM, EReal.coe_strictMono.monotone.map_max]⟩

/-- The softmax-weighted sum of values `v` at real scores `s`. -/
def soft {ι : Type} [Fintype ι] (s : ι → ℝ) (v : ι → EReal) : EReal :=
  ∑ k, v k * ((Real.exp (s k) / ∑ j, Real.exp (s j) : ℝ) : EReal)

/-- The textbook softmax: exponentials shifted by any real `M`, each divided by their sum, weigh the values. -/
theorem soft_of_shift {ι : Type} [Fintype ι] [Nonempty ι] (s : ι → ℝ) (v : ι → EReal) (M : ℝ) :
    ∑ k, v k * Ideal.div ((Real.exp (s k - M) : ℝ) : EReal) (∑ j, ((Real.exp (s j - M) : ℝ) : EReal)) = soft s v := by
  have hpos : 0 < ∑ j, Real.exp (s j - M) := Finset.sum_pos (fun _ _ => Real.exp_pos _) Finset.univ_nonempty
  have hsum : ∑ j, Real.exp (s j - M) = (∑ j, Real.exp (s j)) * Real.exp (-M) := by
    rw [Finset.sum_mul]; exact Finset.sum_congr rfl fun j _ => by rw [sub_eq_add_neg, Real.exp_add]
  refine Finset.sum_congr rfl fun k _ => ?_
  rw [coe_sum, Ideal.div_coe hpos.ne', ← EReal.coe_mul, hsum, sub_eq_add_neg, Real.exp_add]
  congr 2
  have := (Real.exp_pos (-M)).ne'
  field_simp

/-- One block's share of the running sum: the values weighed by `2^(t k − m)`. -/
def part {ι : Type} [Fintype ι] (t : ι → ℝ) (v : ι → EReal) (m : ℝ) : EReal :=
  ∑ k, v k * (((2 : ℝ) ^ (t k - m) : ℝ) : EReal)

/-- Moving the shift from `m` to `m'` multiplies a share by `2^(m − m')`. -/
theorem part_rescale {ι : Type} [Fintype ι] (t : ι → ℝ) (v : ι → EReal) (m m' : ℝ) :
    part t v m * (((2 : ℝ) ^ (m - m') : ℝ) : EReal) = part t v m' := by
  unfold part
  rw [sum_mul_coe _ _ (by positivity)]
  refine Finset.sum_congr rfl fun k _ => ?_
  rw [mul_assoc, ← EReal.coe_mul, ← Real.rpow_add two_pos, show t k - m + (m - m') = t k - m' by ring]

/-- The state of the blockwise computation after `n` blocks: nothing yet, or a real shift and the blocks' shares. -/
def Inv {ι : Type} [Fintype ι] (t : ℕ → ι → ℝ) (v : ℕ → ι → EReal) (n : ℕ) (m acc : EReal) : Prop :=
  (n = 0 ∧ m = ⊥ ∧ acc = 0) ∨ (m = (m.toReal : EReal) ∧ acc = ∑ b ∈ Finset.range n, part (t b) (v b) m.toReal)

/-- Before the first block. -/
theorem inv_zero {ι : Type} [Fintype ι] (t : ℕ → ι → ℝ) (v : ℕ → ι → EReal) : Inv t v 0 ⊥ 0 := .inl ⟨rfl, rfl, rfl⟩

/-- One more block: the shift becomes the larger of the old one and the block's largest score, the old sum is scaled
    by `2^(old shift − new shift)`, and the block's share at the new shift is added. -/
theorem inv_step {ι : Type} [Fintype ι] [Nonempty ι] {t : ℕ → ι → ℝ} {v : ℕ → ι → EReal} {n : ℕ} {m acc : EReal}
    (h : Inv t v n m acc) {m' : EReal} (hm' : m' = max m (Finset.univ.fold max ⊥ fun k => (t n k : EReal))) :
    Inv t v (n + 1) m' (acc * Ideal.exp2 (m - m') + ∑ k, v n k * Ideal.exp2 ((t n k : EReal) - m')) := by
  obtain ⟨B, hB⟩ := fold_max_real (t n)
  rw [hB] at hm'
  right
  have hblock : ∀ M : ℝ, (∑ k, v n k * Ideal.exp2 ((t n k : EReal) - (M : EReal))) = part (t n) (v n) M := fun M =>
    Finset.sum_congr rfl fun k _ => by rw [← EReal.coe_sub, exp2_coe]
  rcases h with ⟨rfl, rfl, rfl⟩ | ⟨hm, hacc⟩
  · rw [max_eq_right bot_le] at hm'
    subst hm'
    refine ⟨by rw [EReal.toReal_coe], ?_⟩
    rw [hblock, EReal.toReal_coe, zero_mul, zero_add, Finset.sum_range_one]
  · generalize m.toReal = M at hm hacc
    subst hm
    rw [← EReal.coe_strictMono.monotone.map_max] at hm'
    subst hm'
    refine ⟨by rw [EReal.toReal_coe], ?_⟩
    rw [hblock, EReal.toReal_coe, Finset.sum_range_succ, hacc, ← EReal.coe_sub, exp2_coe,
      sum_mul_coe _ _ (by positivity)]
    congr 1
    exact Finset.sum_congr rfl fun b _ => part_rescale _ _ _ _

/-- After the last block the quotient of the sums with values `v` and with values 1 is the softmax-weighted sum, for
    base-2 scores `s · (1 / log 2)`. -/
theorem inv_soft {ι : Type} [Fintype ι] [Nonempty ι] {s : ℕ → ι → ℝ} {v : ℕ → ι → EReal} {n : ℕ} {m acc l : EReal}
    (hn : 0 < n) (h : Inv (fun b k => s b k * (Real.log 2)⁻¹) v n m acc)
    (h1 : Inv (fun b k => s b k * (Real.log 2)⁻¹) (fun _ _ => 1) n m l) :
    Ideal.div acc l = soft (fun p : Fin n × ι => s p.1 p.2) (fun p => v p.1 p.2) := by
  rcases h with ⟨rfl, -, -⟩ | ⟨hm, hacc⟩
  · omega
  rcases h1 with ⟨rfl, -, -⟩ | ⟨-, hl⟩
  · omega
  generalize m.toReal = M at hacc hl
  have hlog : Real.log 2 ≠ 0 := (Real.log_pos one_lt_two).ne'
  have hpow : ∀ b k, (2 : ℝ) ^ (s b k * (Real.log 2)⁻¹ - M) = Real.exp (s b k) * (2 : ℝ) ^ (-M) := fun b k => by
    rw [sub_eq_add_neg, Real.rpow_add two_pos]
    congr 1
    rw [Real.rpow_def_of_pos two_pos]
    congr 1; field_simp
  have hP : (0 : ℝ) < (2 : ℝ) ^ (-M) := by positivity
  have flat : ∀ f : ℕ → ι → EReal, (∑ b ∈ Finset.range n, ∑ k, f b k) = ∑ p : Fin n × ι, f p.1 p.2 := fun f => by
    rw [Fintype.sum_prod_type, ← Fin.sum_univ_eq_sum_range (fun b => ∑ k, f b k) n]
  have hl' : l = (((∑ p : Fin n × ι, Real.exp (s p.1 p.2)) * (2 : ℝ) ^ (-M) : ℝ) : EReal) := by
    rw [hl]
    unfold part
    rw [flat, Finset.sum_mul, ← coe_sum]
    exact Finset.sum_congr rfl fun p _ => by rw [one_mul, hpow]
  have : Nonempty (Fin n × ι) := ⟨(⟨0, hn⟩, Classical.arbitrary ι)⟩
  have hS : 0 < ∑ p : Fin n × ι, Real.exp (s p.1 p.2) :=
    Finset.sum_pos (fun _ _ => Real.exp_pos _) Finset.univ_nonempty
  have hL : (0 : ℝ) < (∑ p : Fin n × ι, Real.exp (s p.1 p.2)) * (2 : ℝ) ^ (-M) := mul_pos hS hP
  rw [hl', Ideal.div_coe hL.ne', hacc]
  unfold part soft
  rw [flat, sum_mul_coe _ _ (one_div_nonneg.mpr hL.le)]
  refine Finset.sum_congr rfl fun p _ => ?_
  rw [mul_assoc, ← EReal.coe_mul, hpow]
  congr 2
  field_simp

/-- A softmax-weighted sum over keys numbered another way. -/
theorem soft_equiv {ι κ : Type} [Fintype ι] [Fintype κ] (e : ι ≃ κ) (s : κ → ℝ) (v : κ → EReal) :
    soft (fun i => s (e i)) (fun i => v (e i)) = soft s v := by
  unfold soft
  rw [Equiv.sum_comp e (fun j => Real.exp (s j))]
  exact Equiv.sum_comp e fun k => v k * ((Real.exp (s k) / ∑ j, Real.exp (s j) : ℝ) : EReal)

end Cert.Proof.Softmax

end
-- ==== Proof.Step.lean ====
/-
  One block of keys, as functions of the blocks it reads: what the kernel stores for its running maximum, for its
  running sums and, after the last block, for its output. The state passed in is that of the block before.
-/
module

public import proofs.«01_k».proof.Proof.Softmax
public import Idealize.ShloMosaic.Lib.Pointwise

@[expose] public section

noncomputable section

namespace Cert.Proof.Step

open Idealize.ShloMosaic

/-- Blocks of queries (4 heads), keys, transposed values, running maxima, running sums and output. -/
abbrev Q : Shape := ⟨3, ![4, 512, 64]⟩
abbrev K : Shape := ⟨3, ![1, 4096, 64]⟩
abbrev W : Shape := ⟨3, ![1, 80, 4096]⟩
abbrev M : Shape := ⟨3, ![4, 1, 512]⟩
abbrev A : Shape := ⟨3, ![4, 80, 512]⟩
abbrev O : Shape := ⟨2, ![512, 256]⟩

/-- The score of key `k` for query `q` of head `h`. -/
def score (x0 : Q.Idx → EReal) (x1 : K.Idx → EReal) (h : Fin 4) (q : Fin 512) (k : Fin 4096) : EReal :=
  ∑ e : Fin 64, x1 (ix3 0 k e) * x0 (ix3 h q e)

/-- The running maximum after the block. -/
def newMax (x0 : Q.Idx → EReal) (x1 : K.Idx → EReal) (s0 : M.Idx → EReal) (h : Fin 4) (q : Fin 512) : EReal :=
  max (s0 (ix3 h 0 q)) (Finset.univ.fold max ⊥ fun k => score x0 x1 h q k)

/-- The running sums after the block: the old ones rescaled, plus the block's weighted values. -/
def newSum (x0 : Q.Idx → EReal) (x1 : K.Idx → EReal) (x2 : W.Idx → EReal) (s0 : M.Idx → EReal) (s1 : A.Idx → EReal)
    (h : Fin 4) (d : Fin 80) (q : Fin 512) : EReal :=
  s1 (ix3 h d q) * Ideal.exp2 (s0 (ix3 h 0 q) - newMax x0 x1 s0 h q) +
    ∑ k : Fin 4096, x2 (ix3 0 d k) * Ideal.exp2 (score x0 x1 h q k - newMax x0 x1 s0 h q)

/-- The maxima as the block the kernel stores. -/
def maxBlock (x0 : Q.Idx → EReal) (x1 : K.Idx → EReal) (s0 : M.Idx → EReal) : M.Idx → EReal :=
  fun y => newMax x0 x1 s0 (y 0) (y 2)

/-- The sums as the block the kernel stores. -/
def sumBlock (x0 : Q.Idx → EReal) (x1 : K.Idx → EReal) (x2 : W.Idx → EReal) (s0 : M.Idx → EReal) (s1 : A.Idx → EReal) :
    A.Idx → EReal :=
  fun y => newSum x0 x1 x2 s0 s1 (y 0) (y 1) (y 2)

/-- The output block: the first 64 sums of a head divided by its sum number 64, the heads side by side in the columns. -/
def outBlock (acc : A.Idx → EReal) : O.Idx → EReal := fun y =>
  Ideal.div (acc (ix3 ⟨(y 1 : ℕ) / 64, Nat.div_lt_of_lt_mul (y 1).isLt⟩
      ⟨(y 1 : ℕ) % 64, lt_trans (Nat.mod_lt _ (by norm_num)) (by norm_num)⟩ (y 0)))
    (acc (ix3 ⟨(y 1 : ℕ) / 64, Nat.div_lt_of_lt_mul (y 1).isLt⟩ 64 (y 0)))

/-- An entry of the output block, at the column of a head and a coordinate. -/
theorem outBlock_apply (acc : A.Idx → EReal) (q : Fin 512) (y : Fin 256) (h : Fin 4) (d : Fin 64) (e : (y : ℕ) = 64 * h + d) :
    outBlock acc (ix2 q y) = Ideal.div (acc (ix3 h ⟨d, by omega⟩ q)) (acc (ix3 h 64 q)) := by
  have e1 : (⟨(y : ℕ) / 64, Nat.div_lt_of_lt_mul y.isLt⟩ : Fin 4) = h := Fin.ext (by show (y : ℕ) / 64 = h; omega)
  have e2 : (⟨(y : ℕ) % 64, lt_trans (Nat.mod_lt _ (by norm_num)) (by norm_num)⟩ : Fin 80) = ⟨d, by omega⟩ :=
    Fin.ext (by show (y : ℕ) % 64 = d; omega)
  show Ideal.div (acc (ix3 ⟨(y : ℕ) / 64, _⟩ ⟨(y : ℕ) % 64, _⟩ q)) (acc (ix3 ⟨(y : ℕ) / 64, _⟩ 64 q)) = _
  rw [e1, e2]

/-- A block takes the state of the blockwise computation one step further. -/
theorem inv_block {x0 : Q.Idx → EReal} {x1 : K.Idx → EReal} {x2 : W.Idx → EReal} {s0 : M.Idx → EReal} {s1 : A.Idx → EReal}
    {h : Fin 4} {d : Fin 80} {q : Fin 512} {t : ℕ → Fin 4096 → ℝ} {v : ℕ → Fin 4096 → EReal} {n : ℕ}
    (hs : ∀ k, score x0 x1 h q k = (t n k : EReal)) (hv : ∀ k, x2 (ix3 0 d k) = v n k)
    (hI : Softmax.Inv t v n (s0 (ix3 h 0 q)) (s1 (ix3 h d q))) :
    Softmax.Inv t v (n + 1) (maxBlock x0 x1 s0 (ix3 h 0 q)) (sumBlock x0 x1 x2 s0 s1 (ix3 h d q)) := by
  show Softmax.Inv t v (n + 1) (newMax x0 x1 s0 h q) (newSum x0 x1 x2 s0 s1 h d q)
  unfold newSum
  simp only [hs, hv]
  exact Softmax.inv_step hI (by unfold newMax; simp only [hs])

end Cert.Proof.Step

end
-- ==== Proof.Consts.lean ====
/- The literal constants of the programs, as the extended reals their words denote. -/
module

public import Idealize.ShloMosaic.PureOps.Ideal

@[expose] public section

noncomputable section

namespace Cert.Proof.Consts

open Idealize.ShloMosaic

/-- The word of −∞. -/
theorem neg_inf : Ideal.ofBits FTy.f32 4286578688#32 = ⊥ := by
  simp [Ideal.ofBits, Ideal.ieee, -EReal.coe_mul]

/-- The word of +∞. -/
theorem pos_inf : Ideal.ofBits FTy.f32 2139095040#32 = ⊤ := by
  simp [Ideal.ofBits, Ideal.ieee, -EReal.coe_mul]

/-- The word of 1/8, the scale of the queries. -/
theorem eighth : Ideal.ofBits FTy.f32 1040187392#32 = ((0.125 : ℝ) : EReal) := by
  simp [Ideal.ofBits, Ideal.ieee, -EReal.coe_mul]; norm_num

/-- The word of 2. -/
theorem two : Ideal.ofBits FTy.f32 1073741824#32 = ((2 : ℝ) : EReal) := by
  simp [Ideal.ofBits, Ideal.ieee, -EReal.coe_mul]; norm_num

/-- The scale of the kernel's queries: 1/8 of the base-2 logarithm of e. -/
theorem scale : Ideal.ofBits FTy.f32 1040187392#32 * Ideal.div 1 (Ideal.log (Ideal.ofBits FTy.f32 1073741824#32)) =
    ((0.125 * (Real.log 2)⁻¹ : ℝ) : EReal) := by
  rw [eighth, two, show Ideal.log ((2 : ℝ) : EReal) = ((Real.log 2 : ℝ) : EReal) from if_neg (by norm_num),
    Ideal.div_coe (Real.log_pos one_lt_two).ne', one_mul, ← EReal.coe_mul, one_div]

end Cert.Proof.Consts

end
-- ==== Proof.KernelStep.lean ====
/-
  What one grid point of the prompt call leaves in its two carried buffers and, at the last block of a run, in its
  output block: the functions of Step.lean, at the point's blocks of queries, keys and values.
-/
module

public import proofs.«01_k».proof.Proof.Gen.KernelIdeal.Value
public import proofs.«01_k».proof.Proof.Step
public import proofs.«01_k».proof.Proof.Consts
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open Cert.Proof

variable (m : (ℓ : Loc nD τ sig) → Buf (Elt Ideal) ℓ)

variable (x0 : Vec Ideal S4x512x64 .bf16) (x1 : Vec Ideal S1x4096x64 .bf16) (x2 : Vec Ideal S1x80x4096 .bf16)
variable (xs0 : Vec Ideal S4x1x512 .f32) (xs1 : Vec Ideal S4x80x512 .f32)

/-- The stores of the running maxima, one head each, the last one first. -/
abbrev maxPieces : List (View.Piece (Elt Ideal) S4x1x512 .f32) :=
  [⟨Rect.unit ![3, 0, 0] ![1, 1, 512] inb_S4x1x512_S1x1x512_3_0_0,
      k0_pay3 (k0_pay34 (k0_pay20 (View.ld xs0 (Rect.unit ![3, 0, 0] ![1, 1, 512] inb_S4x1x512_S1x1x512_3_0_0)))
      (k0_pay28 (k0_pay11 x1) (k0_pay16 (View.ld x0 (Rect.unit ![3, 0, 0] ![1, 512, 64] inb_S4x512x64_S1x512x64_3_0_0)))))⟩,
    ⟨Rect.unit ![2, 0, 0] ![1, 1, 512] inb_S4x1x512_S1x1x512_2_0_0,
      k0_pay1 (k0_pay32 (k0_pay19 (View.ld xs0 (Rect.unit ![2, 0, 0] ![1, 1, 512] inb_S4x1x512_S1x1x512_2_0_0)))
      (k0_pay31 (k0_pay11 x1) (k0_pay15 (View.ld x0 (Rect.unit ![2, 0, 0] ![1, 512, 64] inb_S4x512x64_S1x512x64_2_0_0)))))⟩,
    ⟨Rect.unit ![1, 0, 0] ![1, 1, 512] inb_S4x1x512_S1x1x512_1_0_0,
      k0_pay38 (k0_pay29 (k0_pay11 x1) (k0_pay14 (View.ld x0 (Rect.unit ![1, 0, 0] ![1, 512, 64] inb_S4x512x64_S1x512x64_1_0_0)))
      (k0_pay18 (View.ld xs0 (Rect.unit ![1, 0, 0] ![1, 1, 512] inb_S4x1x512_S1x1x512_1_0_0))))⟩,
    ⟨Rect.unit ![0, 0, 0] ![1, 1, 512] inb_S4x1x512_S1x1x512_0_0_0,
      k0_pay36 (k0_pay26 (k0_pay11 x1) (k0_pay13 (View.ld x0 (Rect.unit ![0, 0, 0] ![1, 512, 64] inb_S4x512x64_S1x512x64_0_0_0)))
      (k0_pay17 (View.ld xs0 (Rect.unit ![0, 0, 0] ![1, 1, 512] inb_S4x1x512_S1x1x512_0_0_0))))⟩]

/-- The stores of the running sums, one head each, the last one first. -/
abbrev sumPieces : List (View.Piece (Elt Ideal) S4x80x512 .f32) :=
  [⟨Rect.unit ![3, 0, 0] ![1, 80, 512] inb_S4x80x512_S1x80x512_3_0_0,
      k0_pay4 (k0_pay35 (k0_pay12 x2) (k0_pay20 (View.ld xs0 (Rect.unit ![3, 0, 0] ![1, 1, 512] inb_S4x1x512_S1x1x512_3_0_0)))
      (k0_pay22 (View.ld xs1 (Rect.unit ![3, 0, 0] ![1, 80, 512] inb_S4x80x512_S1x80x512_3_0_0)))
      (k0_pay28 (k0_pay11 x1) (k0_pay16 (View.ld x0 (Rect.unit ![3, 0, 0] ![1, 512, 64] inb_S4x512x64_S1x512x64_3_0_0)))))⟩,
    ⟨Rect.unit ![2, 0, 0] ![1, 80, 512] inb_S4x80x512_S1x80x512_2_0_0,
      k0_pay2 (k0_pay33 (k0_pay12 x2) (k0_pay19 (View.ld xs0 (Rect.unit ![2, 0, 0] ![1, 1, 512] inb_S4x1x512_S1x1x512_2_0_0)))
      (k0_pay21 (View.ld xs1 (Rect.unit ![2, 0, 0] ![1, 80, 512] inb_S4x80x512_S1x80x512_2_0_0)))
      (k0_pay25 (k0_pay11 x1) (k0_pay15 (View.ld x0 (Rect.unit ![2, 0, 0] ![1, 512, 64] inb_S4x512x64_S1x512x64_2_0_0))))
      (k0_pay31 (k0_pay11 x1) (k0_pay15 (View.ld x0 (Rect.unit ![2, 0, 0] ![1, 512, 64] inb_S4x512x64_S1x512x64_2_0_0)))))⟩,
    ⟨Rect.unit ![1, 0, 0] ![1, 80, 512] inb_S4x80x512_S1x80x512_1_0_0,
      k0_pay39 (k0_pay30 (k0_pay11 x1) (k0_pay12 x2) (k0_pay14 (View.ld x0 (Rect.unit ![1, 0, 0] ![1, 512, 64] inb_S4x512x64_S1x512x64_1_0_0)))
      (k0_pay18 (View.ld xs0 (Rect.unit ![1, 0, 0] ![1, 1, 512] inb_S4x1x512_S1x1x512_1_0_0)))
      (View.ld xs1 (Rect.unit ![1, 0, 0] ![1, 80, 512] inb_S4x80x512_S1x80x512_1_0_0)))⟩,
    ⟨Rect.unit ![0, 0, 0] ![1, 80, 512] inb_S4x80x512_S1x80x512_0_0_0,
      k0_pay37 (k0_pay27 (k0_pay11 x1) (k0_pay12 x2) (k0_pay13 (View.ld x0 (Rect.unit ![0, 0, 0] ![1, 512, 64] inb_S4x512x64_S1x512x64_0_0_0)))
      (k0_pay17 (View.ld xs0 (Rect.unit ![0, 0, 0] ![1, 1, 512] inb_S4x1x512_S1x1x512_0_0_0)))
      (View.ld xs1 (Rect.unit ![0, 0, 0] ![1, 80, 512] inb_S4x80x512_S1x80x512_0_0_0)))⟩]

/-- A unit-stride block of a rank-3 array is placed by adding its offsets. -/
theorem unit_emb {n o s : Fin 3 → ℕ} (h : ∀ a, o a + s a ≤ n a) (x : (⟨3, s⟩ : Shape).Idx) (a : Fin 3) :
    ((Rect.unit (s := ⟨3, n⟩) o s h).emb x a : ℕ) = o a + x a := by
  simp [Rect.emb, Rect.unit]

/-- Each store of the running maxima is a block of the new maxima. -/
theorem maxPieces_of : View.PiecesOf (Step.maxBlock x0 x1 xs0) (maxPieces x0 x1 xs0) := by
  refine ⟨fun x => ?_, fun x => ?_, fun x => ?_, fun x => ?_, trivial⟩
  all_goals
    generalize hy : (Rect.unit _ _ _).emb x = y
    have h0 := (congrArg (fun z => (z 0 : ℕ)) hy).symm.trans (unit_emb _ x 0)
    have h2 := (congrArg (fun z => (z 2 : ℕ)) hy).symm.trans (unit_emb _ x 2)
    idx_vars y
    idx_vars x
    unfold_payloads
    pointwise [Step.maxBlock, Step.newMax, Step.score]
    simp only [Consts.neg_inf]
    obtain rfl : y2 = x2 := Fin.ext (by simpa using h2)
    fin_cases y0 <;> first | (simp at h0; done) | rfl

/-- Each store of the running sums is a block of the new sums. -/
theorem sumPieces_of : View.PiecesOf (Step.sumBlock x0 x1 x2 xs0 xs1) (sumPieces x0 x1 x2 xs0 xs1) := by
  refine ⟨fun x => ?_, fun x => ?_, fun x => ?_, fun x => ?_, trivial⟩
  all_goals
    generalize hy : (Rect.unit _ _ _).emb x = y
    have h0 := (congrArg (fun z => (z 0 : ℕ)) hy).symm.trans (unit_emb _ x 0)
    have h1 := (congrArg (fun z => (z 1 : ℕ)) hy).symm.trans (unit_emb _ x 1)
    have h2 := (congrArg (fun z => (z 2 : ℕ)) hy).symm.trans (unit_emb _ x 2)
    idx_vars y
    idx_vars x
    unfold_payloads
    pointwise [Step.sumBlock, Step.newSum, Step.newMax, Step.score]
    simp only [Consts.neg_inf]
    obtain rfl : y2 = x2 := Fin.ext (by simpa using h2)
    obtain rfl : y1 = x1 := Fin.ext (by simpa using h1)
    fin_cases y0 <;> first | (simp at h0; done) | rfl

/-- The stores of the running maxima, over any earlier ones, leave the new maxima. -/
theorem canon_maxPieces (L : List (View.Piece (Elt Ideal) S4x1x512 .f32)) :
    View.canon (maxPieces x0 x1 xs0 ++ L) = Step.maxBlock x0 x1 xs0 :=
  funext fun y => View.canon_append_of_piecesOf _ _ _ (maxPieces_of x0 x1 xs0) y
    (View.cover_of_tiledL _ ![1, 1, 512] (by rfl) y)

/-- The stores of the running sums, over any earlier ones, leave the new sums. -/
theorem canon_sumPieces (L : List (View.Piece (Elt Ideal) S4x80x512 .f32)) :
    View.canon (sumPieces x0 x1 x2 xs0 xs1 ++ L) = Step.sumBlock x0 x1 x2 xs0 xs1 :=
  funext fun y => View.canon_append_of_piecesOf _ _ _ (sumPieces_of x0 x1 x2 xs0 xs1) y
    (View.cover_of_tiledL _ ![1, 80, 512] (by rfl) y)

/-- The maxima a point starts from: −∞ at the first block of a run, otherwise those carried. -/
def startMax (t : Fin cfg0.N) (s : Vec Ideal S4x1x512 .f32) : Vec Ideal S4x1x512 .f32 :=
  if t.val % 4 = 0 then fun _ => ⊥ else s

/-- The sums a point starts from: zero at the first block of a run, otherwise those carried. -/
def startSum (t : Fin cfg0.N) (s : Vec Ideal S4x80x512 .f32) : Vec Ideal S4x80x512 .f32 :=
  if t.val % 4 = 0 then fun _ => 0 else s

/-- The fill of the running maxima. -/
theorem pay9_eq : (k0_pay9 (F := Ideal) : S4x1x512.Idx → EReal) = fun _ => ⊥ := by
  funext y
  unfold_payloads
  pointwise
  exact Consts.neg_inf

/-- The fill of the running sums. -/
theorem pay10_eq : (k0_pay10 (F := Ideal) : S4x80x512.Idx → EReal) = fun _ => 0 := by
  funext y
  unfold_payloads
  pointwise

/-- The maxima after a point. -/
theorem stAt0_max (c : Dev nD) (t : Fin cfg0.N) (acc : Vec Ideal S512x256 .bf16 × Vec Ideal S4x1x512 .f32 × Vec Ideal S4x80x512 .f32) :
    (stAt0 m c t.val t.isLt acc).2.1 = Step.maxBlock (iblk m c 0 t) (iblk m c 1 t) (startMax t acc.2.1) := by
  unfold startMax
  by_cases h0 : t.val % 4 = 0
  · rw [stAt0_A m c t acc h0 (by omega), if_pos h0, ← pay9_eq]
    dsimp only
    generalize iblk m c 0 t = x0
    generalize iblk m c 1 t = x1
    generalize iblk m c 2 t = x2
    frame_open
    simp (disch := decide) only [↓ View.readCov_skip, ↓ View.readCov_cons_toLoadRect, ↓ View.readCov_fill]
    frame_out
    exact canon_maxPieces x0 x1 _ [_]
  · rw [if_neg h0]
    by_cases h1 : t.val % 4 = 3
    · rw [stAt0_C m c t acc h0 h1]
      dsimp only
      generalize iblk m c 0 t = x0
      generalize iblk m c 1 t = x1
      generalize iblk m c 2 t = x2
      frame_out
      simp only [read_unread_whole]
      exact canon_maxPieces x0 x1 _ []
    · rw [stAt0_B m c t acc h0 h1]
      dsimp only
      generalize iblk m c 0 t = x0
      generalize iblk m c 1 t = x1
      generalize iblk m c 2 t = x2
      frame_out
      simp only [read_unread_whole]
      exact canon_maxPieces x0 x1 _ []

/-- The sums after a point. -/
theorem stAt0_sum (c : Dev nD) (t : Fin cfg0.N) (acc : Vec Ideal S512x256 .bf16 × Vec Ideal S4x1x512 .f32 × Vec Ideal S4x80x512 .f32) :
    (stAt0 m c t.val t.isLt acc).2.2 =
      Step.sumBlock (iblk m c 0 t) (iblk m c 1 t) (iblk m c 2 t) (startMax t acc.2.1) (startSum t acc.2.2) := by
  unfold startMax startSum
  by_cases h0 : t.val % 4 = 0
  · rw [stAt0_A m c t acc h0 (by omega), if_pos h0, if_pos h0, ← pay9_eq, ← pay10_eq]
    dsimp only
    generalize iblk m c 0 t = x0
    generalize iblk m c 1 t = x1
    generalize iblk m c 2 t = x2
    frame_open
    simp (disch := decide) only [↓ View.readCov_skip, ↓ View.readCov_cons_toLoadRect, ↓ View.readCov_fill]
    frame_out
    exact canon_sumPieces x0 x1 x2 _ _ [_]
  · rw [if_neg h0, if_neg h0]
    by_cases h1 : t.val % 4 = 3
    · rw [stAt0_C m c t acc h0 h1]
      dsimp only
      generalize iblk m c 0 t = x0
      generalize iblk m c 1 t = x1
      generalize iblk m c 2 t = x2
      frame_out
      simp only [read_unread_whole]
      exact canon_sumPieces x0 x1 x2 _ _ []
    · rw [stAt0_B m c t acc h0 h1]
      dsimp only
      generalize iblk m c 0 t = x0
      generalize iblk m c 1 t = x1
      generalize iblk m c 2 t = x2
      frame_out
      simp only [read_unread_whole]
      exact canon_sumPieces x0 x1 x2 _ _ []

/-- The output block after the last point of a run. -/
theorem stAt0_out (c : Dev nD) (t : Fin cfg0.N) (acc : Vec Ideal S512x256 .bf16 × Vec Ideal S4x1x512 .f32 × Vec Ideal S4x80x512 .f32)
    (h1 : t.val % 4 = 3) :
    (stAt0 m c t.val t.isLt acc).1 =
      Step.outBlock (Step.sumBlock (iblk m c 0 t) (iblk m c 1 t) (iblk m c 2 t) acc.2.1 acc.2.2) := by
  rw [stAt0_C m c t acc (by omega) h1]
  dsimp only
  generalize iblk m c 0 t = x0
  generalize iblk m c 1 t = x1
  generalize iblk m c 2 t = x2
  funext y
  frame_open
  simp (disch := decide) only [↓ View.readCov_skip, ↓ View.readCov_cons_toLoadRect, ↓ View.readCov_fill]
  frame_out
  simp only [read_unread_whole]
  canon_tiles x h
  all_goals
    idx_vars y
    idx_vars x
    obtain rfl : y0 = x0 := Fin.ext (by simpa using h0)
    have e : ∃ h : Fin 4, (y1 : ℕ) = 64 * h + x1 := ⟨⟨((y1 : ℕ) - x1) / 64, by omega⟩, by
      show (y1 : ℕ) = 64 * (((y1 : ℕ) - x1) / 64) + x1
      omega⟩
    obtain ⟨h, e⟩ := e
    rw [Step.outBlock_apply _ y0 y1 h x1 e]
    unfold_payloads
    pointwise [Step.sumBlock, Step.newSum, Step.newMax, Step.score]
    simp only [Consts.neg_inf]
    fin_cases h <;> first | (simp at e; omega) | rfl

end Cert.KernelIdeal.Value

end
-- ==== Proof.Spec.lean ====
/-
  The attention of the layer, written once over the argument arrays: a query's real scores against a range of keys,
  and the softmax-weighted sum of the values of that range. Tokens are numbered by natural numbers.
-/
module

public import proofs.«01_k».proof.Proof.Softmax
public import Mathlib.Logic.Equiv.Fin.Basic
public import Idealize.ShloMosaic.Lib.Pointwise

@[expose] public section

noncomputable section

namespace Cert.Proof.Spec

open Idealize.ShloMosaic

/-- Queries of 8 heads; keys and values of 2 heads; 32768 tokens, 64 coordinates. -/
abbrev SQ : Shape := ⟨3, ![8, 32768, 64]⟩
abbrev SK : Shape := ⟨3, ![2, 32768, 64]⟩

/-- The token numbered `n`. -/
def tok (n : ℕ) : Fin 32768 := ⟨n % 32768, Nat.mod_lt _ (by norm_num)⟩

/-- A token written out. -/
theorem tok_of_lt (n : ℕ) (h : n < 32768) : (⟨n, h⟩ : Fin 32768) = tok n := Fin.ext (Nat.mod_eq_of_lt h).symm

/-- Four query heads share a head of keys and values. -/
def kvHead (h : Fin 8) : Fin 2 := ⟨h / 4, by omega⟩

/-- The score of key `u` for query `t` of head `h`. -/
def score (q : SQ.Idx → EReal) (k : SK.Idx → EReal) (h : Fin 8) (t u : ℕ) : ℝ :=
  ∑ e : Fin 64, (q (ix3 h (tok t) e)).toReal * 0.125 * (k (ix3 (kvHead h) (tok u) e)).toReal

/-- Attention of query `t` of head `h` over the `n` tokens from `off` on, at coordinate `d`. -/
def attn (n off : ℕ) (q : SQ.Idx → EReal) (k v : SK.Idx → EReal) (h : Fin 8) (t : ℕ) (d : Fin 64) : EReal :=
  Softmax.soft (fun u : Fin n => score q k h t (off + u)) (fun u => v (ix3 (kvHead h) (tok (off + u)) d))

/-- The head and the coordinate that a column of the result holds. -/
def colHead (y : Fin 512) : Fin 8 := ⟨y / 64, by omega⟩
def colCoord (y : Fin 512) : Fin 64 := ⟨y % 64, by omega⟩

/-- The head of queries at place `g` of the group that shares the keys and values of head `j`. -/
def groupHead (j : Fin 2) (g : Fin 4) : Fin 8 := ⟨4 * j + g, by omega⟩

theorem groupHead_of (j : Fin 2) (g : Fin 4) (h : (j : ℕ) * 4 + g < 8) : (⟨(j : ℕ) * 4 + g, h⟩ : Fin 8) = groupHead j g :=
  Fin.ext (by show (j : ℕ) * 4 + g = 4 * j + g; omega)

theorem kvHead_group (j : Fin 2) (g : Fin 4) : kvHead (groupHead j g) = j :=
  Fin.ext (by show (4 * (j : ℕ) + g) / 4 = j; omega)

theorem groupHead_col (y : Fin 512) (h : (y : ℕ) / 256 < 2) (h' : (y : ℕ) / 64 % 4 < 4) :
    groupHead ⟨(y : ℕ) / 256, h⟩ ⟨(y : ℕ) / 64 % 4, h'⟩ = colHead y :=
  Fin.ext (by show 4 * ((y : ℕ) / 256) + (y : ℕ) / 64 % 4 = (y : ℕ) / 64; omega)

/-- An array all of whose entries are real numbers. -/
def Real {S : Shape} (x : S.Idx → EReal) : Prop := ∀ i, x i = ((x i).toReal : EReal)

/-- The first token of a sample. -/
def start (b : ℕ) : ℕ := 16384 + 4096 * b

theorem start_add (b t : ℕ) : 16384 + (b * 4096 + t) = start b + t := by unfold start; omega

theorem start_row (r : ℕ) (hr : ¬r < 16384) : start ((r - 16384) / 4096) + (r - 16384) % 4096 = r := by
  unfold start; omega

/-- The second call's result: the prompt's rows of the given array, then each sample's attention over its own tokens. -/
def sample (q : SQ.Idx → EReal) (k v : SK.Idx → EReal) (prev : (⟨2, ![32768, 512]⟩ : Shape).Idx → EReal) (r : Fin 32768)
    (y : Fin 512) : EReal :=
  if (r : ℕ) < 16384 then prev (ix2 r y)
  else attn 4096 (start (((r : ℕ) - 16384) / 4096)) q k v (colHead y) r (colCoord y)

/-- A real score: products of real entries in either order, scaled by any real before or after. -/
theorem score_sum {q : SQ.Idx → EReal} {k : SK.Idx → EReal} (hq : Real q) (hk : Real k) (c : ℝ) (h : Fin 8) (t u : ℕ) :
    (∑ e : Fin 64, k (ix3 (kvHead h) (tok u) e) * (q (ix3 h (tok t) e) * ((0.125 * c : ℝ) : EReal))) =
      ((score q k h t u * c : ℝ) : EReal) := by
  unfold score
  rw [Finset.sum_mul, ← Softmax.coe_sum]
  refine Finset.sum_congr rfl fun e _ => ?_
  rw [hq, hk, ← EReal.coe_mul, ← EReal.coe_mul, EReal.toReal_coe, EReal.toReal_coe]
  congr 1; ring

/-- A real score as the reference writes it. -/
theorem score_sum_ref {q : SQ.Idx → EReal} {k : SK.Idx → EReal} (hq : Real q) (hk : Real k) (h : Fin 8) (t u : ℕ) :
    (∑ e : Fin 64, q (ix3 h (tok t) e) * ((0.125 : ℝ) : EReal) * k (ix3 (kvHead h) (tok u) e)) =
      ((score q k h t u : ℝ) : EReal) := by
  unfold score
  rw [← Softmax.coe_sum]
  refine Finset.sum_congr rfl fun e _ => ?_
  rw [hq, hk, ← EReal.coe_mul, ← EReal.coe_mul, EReal.toReal_coe, EReal.toReal_coe]

/-- The textbook computation of a query's attention, from its scores, any real shift and its values. -/
theorem attn_of_shift {n : ℕ} [NeZero n] (off : ℕ) (q : SQ.Idx → EReal) (k v : SK.Idx → EReal) (h : Fin 8) (t : ℕ)
    (d : Fin 64) (M : EReal) (hM : ∃ r : ℝ, M = r) (s w : Fin n → EReal)
    (hs : ∀ u : Fin n, s u = (score q k h t (off + u) : ℝ)) (hw : ∀ u : Fin n, w u = v (ix3 (kvHead h) (tok (off + u)) d)) :
    (∑ u, w u * Ideal.div (Ideal.exp (s u - M)) (∑ j, Ideal.exp (s j - M))) = attn n off q k v h t d := by
  obtain ⟨r, rfl⟩ := hM
  unfold attn
  rw [← Softmax.soft_of_shift _ _ r]
  simp only [hs, hw, ← EReal.coe_sub, Softmax.exp_coe]

/-- The blockwise computation over `N` blocks of 4096 keys ends at the attention over the `N * 4096` keys. -/
theorem attn_of_inv {N n : ℕ} (hN : 0 < N) (hn : n = N * 4096) (off : ℕ) {q : SQ.Idx → EReal} {k v : SK.Idx → EReal} {h : Fin 8} {t : ℕ}
    {d : Fin 64} {m acc l : EReal}
    (ha : Softmax.Inv (fun b (u : Fin 4096) => score q k h t (off + (4096 * b + u)) * (_root_.Real.log 2)⁻¹)
      (fun b u => v (ix3 (kvHead h) (tok (off + (4096 * b + u))) d)) N m acc)
    (hl : Softmax.Inv (fun b (u : Fin 4096) => score q k h t (off + (4096 * b + u)) * (_root_.Real.log 2)⁻¹)
      (fun _ _ => 1) N m l) :
    Ideal.div acc l = attn n off q k v h t d := by
  subst hn
  rw [Softmax.inv_soft (s := fun b (u : Fin 4096) => score q k h t (off + (4096 * b + u))) hN ha hl]
  unfold attn
  rw [← Softmax.soft_equiv finProdFinEquiv]
  have e : ∀ p : Fin N × Fin 4096, 4096 * (p.1 : ℕ) + p.2 = (finProdFinEquiv p : Fin (N * 4096)) := fun p => by
    rw [finProdFinEquiv_apply_val]; omega
  simp only [e]

end Cert.Proof.Spec

end
-- ==== Proof.KernelValue.lean ====
/-
  The prompt call's result: on the prompt's rows it holds the attention of Spec.lean.
-/
module

public import proofs.«01_k».proof.Proof.KernelStep
public import proofs.«01_k».proof.Proof.Spec

@[expose] public section

set_option maxRecDepth 16384

noncomputable section

namespace Cert.KernelIdeal.Value

open Cert.KernelIdeal Cert.KernelIdeal.Gen Idealize.ShloMosaic Idealize.ShloMosaic.TcCoe Idealize.SL.Sem
open Cert.Proof

variable (m : (ℓ : Loc nD τ sig) → Buf (Elt Ideal) ℓ)

/-- The argument arrays, as functions into the extended reals. -/
abbrev argQ (c : Dev nD) : Spec.SQ.Idx → EReal := m ((c : Thread nD τ).loc main_arg0)
abbrev argK (c : Dev nD) : Spec.SK.Idx → EReal := m ((c : Thread nD τ).loc main_arg1)
abbrev argV (c : Dev nD) : Spec.SK.Idx → EReal := m ((c : Thread nD τ).loc main_arg2)

/-- The index maps of the three input windows over the grid. -/
theorem idx : ∀ t : Fin cfg0.N, win0_0.index t = ![t.val / 128, t.val / 4 % 32, 0] ∧
    win0_1.index t = ![t.val / 128, t.val % 4, 0] ∧ win0_2.index t = ![t.val / 128, 0, t.val % 4] :=
  (by decide +kernel : ∀ t : Fin grid0.N, _)

/-- The head of queries that a point's block has at place `h`. -/
def head (t : Fin cfg0.N) (h : Fin 4) : Fin 8 :=
  ⟨4 * (t.val / 128) + h, by have := lt_of_lt_of_eq t.isLt (show cfg0.N = 256 from N_0); omega⟩

/-- The query token that a point's block has at place `q`, and the key token it has at place `k`. -/
def row (t : Fin cfg0.N) (q : Fin 512) : ℕ := 512 * (t.val / 4 % 32) + q

/-- A point's queries. -/
theorem blk_q (c : Dev nD) (t : Fin cfg0.N) (h : Fin 4) (q : Fin 512) (e : Fin 64) :
    (iblk m c 0 t : S4x512x64.Idx → EReal) (ix3 h q e) =
      argQ m c (ix3 (head t h) (Spec.tok (row t q)) e) * ((0.125 * (Real.log 2)⁻¹ : ℝ) : EReal) := by
  blk_simp [iblk]
  have e : (win0_0.blk t).view.emb (ix3 h q e) = ix3 (head t h) (Spec.tok (row t q)) e := by
    blk_ext [idx t, Spec.tok, head, row]
  rw [e]
  entry_read
  pointwise
  rw [Consts.scale]

/-- A point's keys. -/
theorem blk_k (c : Dev nD) (t : Fin cfg0.N) (h : Fin 4) (k : Fin 4096) (e : Fin 64) :
    (iblk m c 1 t : S1x4096x64.Idx → EReal) (ix3 0 k e) =
      argK m c (ix3 (Spec.kvHead (head t h)) (Spec.tok (4096 * (t.val % 4) + k)) e) := by
  blk_simp [iblk]
  have e : (win0_1.blk t).view.emb (ix3 0 k e) =
      ix3 (Spec.kvHead (head t h)) (Spec.tok (4096 * (t.val % 4) + k)) e := by
    blk_ext [idx t, Spec.tok, head, Spec.kvHead]
  rw [e]
  entry_read
  pointwise

/-- A point's values, transposed; the rows after the 64 coordinates are ones. -/
theorem blk_v (c : Dev nD) (t : Fin cfg0.N) (h : Fin 4) (d : Fin 80) (k : Fin 4096) :
    (iblk m c 2 t : S1x80x4096.Idx → EReal) (ix3 0 d k) =
      if hd : (d : ℕ) < 64 then
        argV m c (ix3 (Spec.kvHead (head t h)) (Spec.tok (4096 * (t.val % 4) + k)) ⟨d, hd⟩) else 1 := by
  blk_simp [iblk]
  have e : (win0_2.blk t).view.emb (ix3 0 d k) =
      ix3 (Spec.kvHead (head t h)) d (Spec.tok (4096 * (t.val % 4) + k)) := by
    blk_ext [idx t, Spec.tok, head, Spec.kvHead]
  rw [e]
  entry_read
  pointwise

/-- The base-2 scores and the values that a run of points goes through, block by block. -/
def T (c : Dev nD) (t : Fin cfg0.N) (h : Fin 4) (q : Fin 512) (b : ℕ) (u : Fin 4096) : ℝ :=
  Spec.score (argQ m c) (argK m c) (head t h) (row t q) (0 + (4096 * b + u)) * (Real.log 2)⁻¹
def U (c : Dev nD) (t : Fin cfg0.N) (h : Fin 4) (d : Fin 80) (b : ℕ) (u : Fin 4096) : EReal :=
  if hd : (d : ℕ) < 64 then
    argV m c (ix3 (Spec.kvHead (head t h)) (Spec.tok (0 + (4096 * b + u))) ⟨d, hd⟩) else 1

/-- The scores of a point's blocks. -/
theorem blk_score (c : Dev nD) (hq : Spec.Real (argQ m c)) (hk : Spec.Real (argK m c)) (t : Fin cfg0.N) (h : Fin 4)
    (q : Fin 512) (u : Fin 4096) :
    Step.score (iblk m c 0 t) (iblk m c 1 t) h q u = ((T m c t h q (t.val % 4) u : ℝ) : EReal) := by
  unfold T Step.score
  rw [← Spec.score_sum hq hk, zero_add]
  refine Finset.sum_congr rfl fun e _ => ?_
  exact congrArg₂ (· * ·) (blk_k m c t h u e) (blk_q m c t h q e)

/-- A point takes the state one block further. -/
theorem inv_point (c : Dev nD) (hq : Spec.Real (argQ m c)) (hk : Spec.Real (argK m c)) (h : Fin 4) (q : Fin 512) (d : Fin 80)
    (t : Fin cfg0.N) (acc : Vec Ideal S512x256 .bf16 × Vec Ideal S4x1x512 .f32 × Vec Ideal S4x80x512 .f32)
    (hI : t.val % 4 ≠ 0 → Softmax.Inv (T m c t h q) (U m c t h d) (t.val % 4) (acc.2.1 (ix3 h 0 q)) (acc.2.2 (ix3 h d q))) :
    Softmax.Inv (T m c t h q) (U m c t h d) (t.val % 4 + 1)
      ((stAt0 m c t.val t.isLt acc).2.1 (ix3 h 0 q)) ((stAt0 m c t.val t.isLt acc).2.2 (ix3 h d q)) := by
  rw [stAt0_max m c t, stAt0_sum m c t]
  refine Step.inv_block (blk_score m c hq hk t h q) (fun k => ?_) ?_
  · exact (blk_v m c t h d k).trans (by rw [U, zero_add])
  · unfold startMax startSum
    by_cases h0 : t.val % 4 = 0
    · rw [if_pos h0, if_pos h0, h0]
      exact Softmax.inv_zero _ _
    · rw [if_neg h0, if_neg h0]
      exact hI h0

/-- After each point, the maxima and sums are those of the blocks its run has gone through. -/
theorem inv (c : Dev nD) (hq : Spec.Real (argQ m c)) (hk : Spec.Real (argK m c)) (h : Fin 4) (q : Fin 512) (d : Fin 80) :
    ∀ (n : ℕ) (hn : n < cfg0.N), Softmax.Inv (T m c ⟨n, hn⟩ h q) (U m c ⟨n, hn⟩ h d) (n % 4 + 1)
      ((outsAt0 m c n hn).2.1 (ix3 h 0 q)) ((outsAt0 m c n hn).2.2 (ix3 h d q)) := by
  intro n
  induction n with
  | zero =>
    intro hn
    rw [outsAt0_zero]
    exact inv_point m c hq hk h q d ⟨0, hn⟩ _ fun h0 => absurd rfl h0
  | succ n ih =>
    intro hn
    refine inv_point m c hq hk h q d ⟨n + 1, hn⟩ _ fun h0 => ?_
    have h0 : (n + 1) % 4 ≠ 0 := h0
    have e1 : head ⟨n + 1, hn⟩ h = head ⟨n, Nat.lt_of_succ_lt hn⟩ h :=
      Fin.ext (by show 4 * ((n + 1) / 128) + (h : ℕ) = 4 * (n / 128) + h; omega)
    have e2 : row ⟨n + 1, hn⟩ q = row ⟨n, Nat.lt_of_succ_lt hn⟩ q := by
      show 512 * ((n + 1) / 4 % 32) + (q : ℕ) = 512 * (n / 4 % 32) + q; omega
    have e3 : (n + 1) % 4 = n % 4 + 1 := by omega
    have eT : T m c ⟨n + 1, hn⟩ h q = T m c ⟨n, Nat.lt_of_succ_lt hn⟩ h q := by unfold T; rw [e1, e2]
    have eU : U m c ⟨n + 1, hn⟩ h d = U m c ⟨n, Nat.lt_of_succ_lt hn⟩ h d := by unfold U; rw [e1]
    show Softmax.Inv _ _ ((n + 1) % 4) _ _
    rw [eT, eU, e3]
    exact ih _

/-- The output block of the last point of a run: attention over the prompt. -/
theorem out_last (c : Dev nD) (hq : Spec.Real (argQ m c)) (hk : Spec.Real (argK m c)) (n : ℕ) (hn : n < cfg0.N)
    (h3 : n % 4 = 3) (q : Fin 512) (y : Fin 256) (h : Fin 4) (d : Fin 64) (e : (y : ℕ) = 64 * h + d) :
    (outsAt0 m c n hn).1 (ix2 q y) =
      Spec.attn 16384 0 (argQ m c) (argK m c) (argV m c) (head ⟨n, hn⟩ h) (row ⟨n, hn⟩ q) d := by
  have hout : (outsAt0 m c n hn).1 = Step.outBlock (outsAt0 m c n hn).2.2 := by
    obtain ⟨n, rfl⟩ : ∃ k, n = k + 1 := ⟨n - 1, by omega⟩
    have e := stAt0_sum m c ⟨n + 1, hn⟩ (outsAt0 m c n (Nat.lt_of_succ_lt hn))
    unfold startMax startSum at e
    rw [if_neg (by show ¬(n + 1) % 4 = 0; omega), if_neg (by show ¬(n + 1) % 4 = 0; omega)] at e
    exact (stAt0_out m c ⟨n + 1, hn⟩ _ h3).trans (congrArg Step.outBlock e.symm)
  rw [hout, Step.outBlock_apply _ q y h d e]
  have hd := inv m c hq hk h q ⟨d, by omega⟩ n hn
  have h1 := inv m c hq hk h q 64 n hn
  rw [h3] at hd h1
  have hU : U m c ⟨n, hn⟩ h ⟨d, by omega⟩ =
      fun b (u : Fin 4096) =>
        argV m c (ix3 (Spec.kvHead (head ⟨n, hn⟩ h)) (Spec.tok (0 + (4096 * b + u))) d) := by
    funext b u; exact dif_pos d.isLt
  have hU1 : U m c ⟨n, hn⟩ h 64 = fun _ _ => 1 := by
    funext b u; exact dif_neg (by decide)
  rw [hU] at hd
  rw [hU1] at h1
  exact Spec.attn_of_inv (by norm_num) (by norm_num) 0 hd h1

/-- On the prompt's rows the result holds the attention of the column's head, at the column's coordinate. -/
theorem G3_eq (c : Dev nD) (hq : Spec.Real (argQ m c)) (hk : Spec.Real (argK m c)) (r : Fin 32768) (y : Fin 512)
    (hr : (r : ℕ) < 16384) :
    G3 m c (ix2 r y) =
      Spec.attn 16384 0 (argQ m c) (argK m c) (argV m c) (Spec.colHead y) r (Spec.colCoord y) := by
  have hN : pt3Of (ix2 r y) < cfg0.N := by
    rw [show cfg0.N = 256 from N_0]
    show 4 * (1 * ((r : ℕ) / 512 - 0) + 32 * ((y : ℕ) / 256 - 0)) + 3 < 256
    omega
  have hl : loc3Of (ix2 r y) = ix2 ⟨(r : ℕ) % 512, Nat.mod_lt _ (by norm_num)⟩ ⟨(y : ℕ) % 256, Nat.mod_lt _ (by norm_num)⟩ :=
    eq_ix2 _
  unfold G3
  rw [dif_pos hN, ← outsAt0_sweep m c _ hN, hl]
  rw [out_last m c hq hk _ hN (by show (4 * _ + 3) % 4 = 3; omega) _ _ ⟨(y : ℕ) % 256 / 64, by omega⟩ (Spec.colCoord y)
    (by show (y : ℕ) % 256 = 64 * ((y : ℕ) % 256 / 64) + (y : ℕ) % 64; omega)]
  congr 1
  · refine Fin.ext ?_
    show 4 * ((4 * (1 * ((r : ℕ) / 512 - 0) + 32 * ((y : ℕ) / 256 - 0)) + 3) / 128) + (y : ℕ) % 256 / 64 = (y : ℕ) / 64
    omega
  · show 512 * ((4 * (1 * ((r : ℕ) / 512 - 0) + 32 * ((y : ℕ) / 256 - 0)) + 3) / 4 % 32) + (r : ℕ) % 512 = r
    omega

end Cert.KernelIdeal.Value

end
-- ==== Proof.Spec3.lean ====
/-
  The input projection in plain words: a row of the input, normalised, scaled and shifted by its sequence's modulation,
  and multiplied with the weights.
-/
module

public import Idealize.ShloMosaic.Lib.Pointwise

@[expose] public section

noncomputable section

namespace Cert.Proof.InProj

open Idealize.ShloMosaic

/-- The arrays' shapes: the rows, the modulation, the gains, the weights. -/
abbrev SX : Shape := ⟨2, ![32768, 1024]⟩
abbrev SM : Shape := ⟨3, ![8, 6, 1024]⟩
abbrev SG : Shape := ⟨1, ![1024]⟩
abbrev SW : Shape := ⟨2, ![1024, 4352]⟩

/-- The normalised and modulated row: the row over its root mean square, by the gains, by one more than the scales, plus
the shifts. -/
def hidRow (x sc sh g : Fin 1024 → EReal) (j : Fin 1024) : EReal :=
  x j * Ideal.rsqrt (Ideal.div (∑ i, x i * x i) (Ideal.ofBits FTy.f32 0x44800000#32) + Ideal.ofBits FTy.f32 0x358637BD#32) *
    g j * (1 + sc j) + sh j

/-- The sequence a row is of: the prompt, or one of the four samples after it. -/
def seqOf (r : Fin 32768) : Fin 8 := ⟨if (r : ℕ) < 16384 then 0 else (r : ℕ) / 4096 - 3, by split <;> omega⟩

theorem seqOf_prompt (r : Fin 32768) (h : (r : ℕ) < 16384) : seqOf r = 0 := Fin.ext (if_pos h)

theorem seqOf_sample (r : Fin 32768) (b : Fin 4) (t : Fin 4096) (h : (r : ℕ) = 16384 + 4096 * b + t) :
    seqOf r = ⟨1 + b, by omega⟩ :=
  Fin.ext ((if_neg (by omega)).trans (by show (r : ℕ) / 4096 - 3 = 1 + (b : ℕ); omega))

variable (x : SX.Idx → EReal) (mod : SM.Idx → EReal) (g : SG.Idx → EReal) (w : SW.Idx → EReal)

/-- A row of the input, normalised and modulated. -/
def hid (r : Fin 32768) (j : Fin 1024) : EReal :=
  hidRow (fun i => x (ix2 r i)) (fun i => mod (ix3 (seqOf r) 1 i)) (fun i => mod (ix3 (seqOf r) 0 i)) (fun i => g (ix1 i)) j

/-- A projected row. -/
def proj (r : Fin 32768) (c : Fin 4352) : EReal := ∑ j : Fin 1024, hid x mod g r j * w (ix2 j c)

/-- The values of the attention, transposed; the rows after the 64 coordinates are ones. -/
def value (h : Fin 2) (d : Fin 80) (t : Fin 32768) : EReal :=
  if hd : (d : ℕ) < 64 then proj x mod g w t ⟨640 + (64 * h + d), by omega⟩ else 1

end Cert.Proof.InProj

end
-- ==== Proof.Kernel3Step.lean ====
module

public import proofs.«01_k».proof.Proof.Gen.Kernel3Ideal.Frame
public import proofs.«01_k».proof.Proof.Spec3
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Proof

/-- The projected block. -/
def zBlock (x0 : Vec Ideal S512x1024 .f32) (x1 : Vec Ideal S1x6x1024 .f32) (x2 : Vec Ideal S1x1024 .f32)
    (w : Vec Ideal S1024x4352 .bf16) (q : Fin 512) (c : Fin 4352) : EReal :=
  ∑ j : Fin 1024, InProj.hidRow (fun i => x0 (ix2 q i)) (fun i => x1 (ix3 0 1 i)) (fun i => x1 (ix3 0 0 i))
    (fun i => x2 (ix2 0 i)) j * w (ix2 j c)

variable (c : Dev nD) (i : grid0.Coords)
variable (arg2 : Memref sig .tc .vmem S512x1024 .f32) (harg2 : arg2.IsWhole)
variable (arg3 : Memref sig .tc .vmem S1x6x1024 .f32) (harg3 : arg3.IsWhole)
variable (arg4 : Memref sig .tc .vmem S1x1024 .f32) (harg4 : arg4.IsWhole)
variable (arg5 : Memref sig .tc .vmem S1024x4352 .bf16) (harg5 : arg5.IsWhole)
variable (arg6 : Memref sig .tc .vmem S1x512 .f32) (harg6 : arg6.IsWhole)
variable (arg7 : Memref sig .tc .vmem S1x128 .f32) (harg7 : arg7.IsWhole)
variable (arg8 : Memref sig .tc .vmem S512x128 .f32) (harg8 : arg8.IsWhole)
variable (arg9 : Memref sig .tc .vmem S512x128 .f32) (harg9 : arg9.IsWhole)
variable (arg10 : Memref sig .tc .vmem S512x512 .bf16) (harg10 : arg10.IsWhole)
variable (arg11 : Memref sig .tc .vmem S8x512x64 .bf16) (harg11 : arg11.IsWhole)
variable (arg12 : Memref sig .tc .vmem S2x512x64 .bf16) (harg12 : arg12.IsWhole)
variable (arg13 : Memref sig .tc .vmem S2x80x512 .bf16) (harg13 : arg13.IsWhole)
variable (arg14 : Memref sig .tc .vmem S512x256 .f32) (harg14 : arg14.IsWhole)
variable (arg15 : Memref sig .tc .vmem S512x256 .f32) (harg15 : arg15.IsWhole)
variable (arg16 : Memref sig .tc .vmem S512x3072 .bf16) (harg16 : arg16.IsWhole)
variable (x0 : Vec Ideal S512x1024 .f32)
variable (x1 : Vec Ideal S1x6x1024 .f32)
variable (x2 : Vec Ideal S1x1024 .f32)
variable (x3 : Vec Ideal S1024x4352 .bf16)
variable (x4 : Vec Ideal S1x512 .f32)
variable (x5 : Vec Ideal S1x128 .f32)
variable (x6 : Vec Ideal S512x128 .f32)
variable (x7 : Vec Ideal S512x128 .f32)
variable (x8 : Vec Ideal S512x512 .bf16)
variable (xt0 : TbBuf0 (F := Ideal) c tbM0_0)

/-- A point's rows for the pooling. -/
theorem out_pool (q : Fin 512) (y : Fin 256) :
    (out0_A_12 c i arg2 harg2 arg3 harg3 arg4 harg4 arg5 harg5 arg6 harg6 arg7 harg7 arg8 harg8 arg9 harg9 arg10 harg10 arg11
      harg11 arg12 harg12 arg13 harg13 arg14 harg14 arg15 harg15 arg16 harg16 x0 x1 x2 x3 x4 x5 x6 x7 x8 xt0 : S512x256.Idx → EReal) (ix2 q y) =
      zBlock x0 x1 x2 x3 q ⟨768 + y, by omega⟩ := by
  frame_open
  frame_out

  unfold_payloads
  pointwise [zBlock, InProj.hidRow]

/-- A point's rows for the recurrence. -/
theorem out_ssm (q : Fin 512) (y : Fin 256) :
    (out0_A_13 c i arg2 harg2 arg3 harg3 arg4 harg4 arg5 harg5 arg6 harg6 arg7 harg7 arg8 harg8 arg9 harg9 arg10 harg10 arg11
      harg11 arg12 harg12 arg13 harg13 arg14 harg14 arg15 harg15 arg16 harg16 x0 x1 x2 x3 x4 x5 x6 x7 x8 xt0 : S512x256.Idx → EReal) (ix2 q y) =
      zBlock x0 x1 x2 x3 q ⟨768 + (256 + y), by omega⟩ := by
  frame_open
  frame_out
  unfold_payloads
  pointwise [zBlock, InProj.hidRow]

/-- A point's gates. -/
theorem out_gates (q : Fin 512) (y : Fin 3072) :
    (out0_A_14 c i arg2 harg2 arg3 harg3 arg4 harg4 arg5 harg5 arg6 harg6 arg7 harg7 arg8 harg8 arg9 harg9 arg10 harg10 arg11
      harg11 arg12 harg12 arg13 harg13 arg14 harg14 arg15 harg15 arg16 harg16 x0 x1 x2 x3 x4 x5 x6 x7 x8 xt0 : S512x3072.Idx → EReal) (ix2 q y) =
      Ideal.logistic (zBlock x0 x1 x2 x3 q ⟨1280 + y, by omega⟩) := by
  generalize hy : ix2 q y = y'
  frame_open
  frame_out
  canon_tiles p h
  · subst hy
    idx_vars p
    obtain rfl : q = p0 := Fin.ext h0
    have h1 : (y : ℕ) = _ := h1
    have e : (⟨1280 + y, by omega⟩ : Fin 4352) = ⟨3328 + p1, by omega⟩ := Fin.ext (by
      show 1280 + (y : ℕ) = 3328 + p1
      rw [h1]
      simp [← Nat.add_assoc])
    rw [e]
    unfold_payloads
    pointwise [zBlock, InProj.hidRow]
  · subst hy
    idx_vars p
    obtain rfl : q = p0 := Fin.ext h0
    have h1 : (y : ℕ) = _ := h1
    have e : (⟨1280 + y, by omega⟩ : Fin 4352) = ⟨2304 + p1, by omega⟩ := Fin.ext (by
      show 1280 + (y : ℕ) = 2304 + p1
      rw [h1]
      simp [← Nat.add_assoc])
    rw [e]
    unfold_payloads
    pointwise [zBlock, InProj.hidRow]
  · subst hy
    idx_vars p
    obtain rfl : q = p0 := Fin.ext h0
    have h1 : (y : ℕ) = _ := h1
    have e : (⟨1280 + y, by omega⟩ : Fin 4352) = ⟨1280 + p1, by omega⟩ := Fin.ext (by
      show 1280 + (y : ℕ) = 1280 + p1
      rw [h1])
    rw [e]
    unfold_payloads
    pointwise [zBlock, InProj.hidRow]

/-- A point's values. -/
theorem out_values (j : Fin 2) (d : Fin 80) (q : Fin 512) :
    (out0_A_11 c i arg2 harg2 arg3 harg3 arg4 harg4 arg5 harg5 arg6 harg6 arg7 harg7 arg8 harg8 arg9 harg9 arg10 harg10 arg11
      harg11 arg12 harg12 arg13 harg13 arg14 harg14 arg15 harg15 arg16 harg16 x0 x1 x2 x3 x4 x5 x6 x7 x8 xt0 : S2x80x512.Idx → EReal) (ix3 j d q) =
      if hd : (d : ℕ) < 64 then zBlock x0 x1 x2 x3 q ⟨640 + (64 * j + d), by omega⟩ else 1 := by
  generalize hy : ix3 j d q = y'
  frame_open
  frame_out
  canon_tiles p h using (View.cover_of_tiledBy _ ![1, 16, 512] (by sl_kernel_rfl) y')
  · subst hy
    idx_vars p
    have h0 : (j : ℕ) = _ := h0
    have h1 : (d : ℕ) = _ := h1
    obtain rfl : q = p2 := Fin.ext h2
    rw [dif_neg (by omega)]
    unfold_payloads
    pointwise
  · subst hy
    idx_vars p
    have h0 : (j : ℕ) = _ := h0
    have h1 : (d : ℕ) = _ := h1
    obtain rfl : q = p2 := Fin.ext h2
    rw [dif_pos (by omega)]
    have e : (⟨640 + (64 * j + d), by omega⟩ : Fin 4352) = ⟨512 + (128 + (64 + p1)), by omega⟩ :=
      Fin.ext (by show 640 + (64 * (j : ℕ) + d) = 512 + (128 + (64 + p1)); omega)
    rw [e]
    unfold_payloads
    pointwise [zBlock, InProj.hidRow]
  · subst hy
    idx_vars p
    have h0 : (j : ℕ) = _ := h0
    have h1 : (d : ℕ) = _ := h1
    obtain rfl : q = p2 := Fin.ext h2
    rw [dif_neg (by omega)]
    unfold_payloads
    pointwise
  · subst hy
    idx_vars p
    have h0 : (j : ℕ) = _ := h0
    have h1 : (d : ℕ) = _ := h1
    obtain rfl : q = p2 := Fin.ext h2
    rw [dif_pos (by omega)]
    have e : (⟨640 + (64 * j + d), by omega⟩ : Fin 4352) = ⟨512 + (128 + p1), by omega⟩ :=
      Fin.ext (by show 640 + (64 * (j : ℕ) + d) = 512 + (128 + p1); omega)
    rw [e]
    unfold_payloads
    pointwise [zBlock, InProj.hidRow]

end Cert.Kernel3Ideal.Value

end
-- ==== Proof.Kernel3Table.lean ====
/-
  The third call's table of sequences, one word per block of rows, and the side condition it answers.
-/
module

public import proofs.«01_k».proof.Proof.Gen.Kernel3.Frame
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3.Value

open Cert.Kernel3 Cert.Kernel3.Gen Idealize.ShloMosaic Idealize.ShloMosaic.TcCoe Idealize.SL.Sem

section

variable {F : FTy → Type} [FloatOps F]
variable (m : (ℓ : Loc nD τ sig) → Buf (Elt F) ℓ)

/-- The region finds the table as the host wrote it. -/
theorem V_main_c (c : Dev nD) : V m c main_c = fun i => lit0 (S64.rowMajor i) := by
  refine (StableHlo.after_of_forall_not_mem (b := Proc.devRef .tc main_c) hostOps0.tail _ (List.forall_iff_forall_mem.mp (by
    simp only [hostOps0, List.tail_cons, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  exact StableHlo.nullary_result (Val := Elt F) main_c (fun i => lit0 (S64.rowMajor i)) _ _

/-- The words name sequences. -/
theorem word_lt (k : Fin 64) : (lit0 k).toNat < 8 := by
  revert k; decide +kernel

/-- A point reads its own word. -/
theorem word_at : ∀ i : grid0.Coords,
    ((Rect.unit (s := S64) ![(Scalar.indexCast (BitVec.ofNat 32 (i 0).val)).toNat] S1.size (k0_off1_inb i)).emb
      (Shape.Idx.first (numel1_S1.symm ▸ Nat.one_pos)) 0).val = (i 0).val := by
  decide +kernel

theorem word_eq (i : grid0.Coords) :
    (tbl m).at 0 (Rect.unit (s := S64) ![(Scalar.indexCast (BitVec.ofNat 32 (i 0).val)).toNat] S1.size (k0_off1_inb i)) numel1_S1 =
      lit0 (i 0) := by
  show V m 0 main_c _ = _
  rw [V_main_c]
  exact congrArg lit0 (Fin.ext ((Shape.rowMajor_val_one _).trans (word_at i)))

/-- The modulation's block index. -/
theorem map_eq (i : grid0.Coords) :
    cc0_transform_1 k0_off1_inb numel1_S1 (tbl m) i = ![(lit0 (i 0)).toNat, 0, 0] :=
  congrArg (fun w : BitVec 32 => ![w.toNat, 0, 0]) (word_eq m i)

/-- Every point's word names a block of the modulation. -/
theorem ok : Ok m := by
  intro i
  refine ⟨fun a => ?_, Or.inl rfl⟩
  rw [map_eq]
  have h := word_lt (i 0)
  match a with
  | 0 => show ((lit0 (i 0)).toNat + 1) * 1 ≤ 8; omega
  | 1 => show (0 + 1) * 6 ≤ 6; omega
  | 2 => show (0 + 1) * 1024 ≤ 1024; omega

end

end Cert.Kernel3.Value

namespace Cert.Kernel3Ideal.Value

open Cert.Kernel3Ideal Cert.Kernel3Ideal.Gen Idealize.ShloMosaic Idealize.ShloMosaic.TcCoe Idealize.SL.Sem

section

variable {F : FTy → Type} [FloatOps F]
variable (m : (ℓ : Loc nD τ sig) → Buf (Elt F) ℓ)

/-- The region finds the table as the host wrote it. -/
theorem V_main_c (c : Dev nD) : V m c main_c = fun i => lit0 (S64.rowMajor i) := by
  refine (StableHlo.after_of_forall_not_mem (b := Proc.devRef .tc main_c) hostOps0.tail _ (List.forall_iff_forall_mem.mp (by
    simp only [hostOps0, List.tail_cons, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  exact StableHlo.nullary_result (Val := Elt F) main_c (fun i => lit0 (S64.rowMajor i)) _ _

/-- The words name sequences. -/
theorem word_lt (k : Fin 64) : (lit0 k).toNat < 8 := by
  revert k; decide +kernel

/-- A point reads its own word. -/
theorem word_at : ∀ i : grid0.Coords,
    ((Rect.unit (s := S64) ![(Scalar.indexCast (BitVec.ofNat 32 (i 0).val)).toNat] S1.size (k0_off1_inb i)).emb
      (Shape.Idx.first (numel1_S1.symm ▸ Nat.one_pos)) 0).val = (i 0).val := by
  decide +kernel

theorem word_eq (i : grid0.Coords) :
    (tbl m).at 0 (Rect.unit (s := S64) ![(Scalar.indexCast (BitVec.ofNat 32 (i 0).val)).toNat] S1.size (k0_off1_inb i)) numel1_S1 =
      lit0 (i 0) := by
  show V m 0 main_c _ = _
  rw [V_main_c]
  exact congrArg lit0 (Fin.ext ((Shape.rowMajor_val_one _).trans (word_at i)))

/-- The modulation's block index. -/
theorem map_eq (i : grid0.Coords) :
    cc0_transform_1 k0_off1_inb numel1_S1 (tbl m) i = ![(lit0 (i 0)).toNat, 0, 0] :=
  congrArg (fun w : BitVec 32 => ![w.toNat, 0, 0]) (word_eq m i)

/-- Every point's word names a block of the modulation. -/
theorem ok : Ok m := by
  intro i
  refine ⟨fun a => ?_, Or.inl rfl⟩
  rw [map_eq]
  have h := word_lt (i 0)
  match a with
  | 0 => show ((lit0 (i 0)).toNat + 1) * 1 ≤ 8; omega
  | 1 => show (0 + 1) * 6 ≤ 6; omega
  | 2 => show (0 + 1) * 1024 ≤ 1024; omega

end

end Cert.Kernel3Ideal.Value

end
-- ==== Proof.Kernel3Value.lean ====
/-
  The input projection's call: its outputs hold the projected rows of Spec3.lean.
-/
module

public import proofs.«01_k».proof.Proof.Kernel3Step
public import proofs.«01_k».proof.Proof.Kernel3Table
public import Idealize.ShloMosaic.Lib.Claim

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Cert.Proof

variable (m : (ℓ : Loc nD τ sig) → Buf (Elt Ideal) ℓ)

/-- The argument arrays, as functions into the extended reals. -/
abbrev argX (c : Dev nD) : InProj.SX.Idx → EReal := m ((c : Thread nD τ).loc main_arg0)
abbrev argMod (c : Dev nD) : InProj.SM.Idx → EReal := m ((c : Thread nD τ).loc main_arg1)
abbrev argG (c : Dev nD) : InProj.SG.Idx → EReal := m ((c : Thread nD τ).loc main_arg2)
abbrev argW (c : Dev nD) : InProj.SW.Idx → EReal := m ((c : Thread nD τ).loc main_arg3)

/-- The index maps of the windows over the grid, the modulation's apart. -/
theorem maps : ∀ t : Fin grid0.N, cc0_transform_0 (grid0.coords t) = ![t.val, 0] ∧
    cc0_transform_2 (grid0.coords t) = ![0, 0] ∧ cc0_transform_3 (grid0.coords t) = ![0, 0] ∧
    cc0_transform_11 (grid0.coords t) = ![0, 0, t.val] ∧ cc0_transform_12 (grid0.coords t) = ![t.val, 0] ∧
    cc0_transform_13 (grid0.coords t) = ![t.val, 0] ∧ cc0_transform_14 (grid0.coords t) = ![t.val, 0] := by
  decide +kernel

/-- The sequence of a point's rows. -/
theorem word_seq : ∀ t : Fin grid0.N, (lit0 (grid0.coords t 0)).toNat = if t.val < 32 then 0 else t.val / 8 - 3 := by
  decide +kernel

theorem map_mod (t : Fin grid0.N) : cc0_transform_1 k0_off1_inb numel1_S1 (tbl m) (grid0.coords t) =
    ![if t.val < 32 then 0 else t.val / 8 - 3, 0, 0] := by
  rw [map_eq, word_seq]

abbrev cfgI : Pipeline.Cfg sig Λ₀ := cfgM m (ok m)

theorem idx (t : Fin (cfgI m).N) : ((cfgI m).win 0).index t = ![t.val, 0] ∧
    ((cfgI m).win 1).index t = ![if t.val < 32 then 0 else t.val / 8 - 3, 0, 0] ∧
    ((cfgI m).win 2).index t = ![0, 0] ∧ ((cfgI m).win 3).index t = ![0, 0] ∧
    ((cfgI m).win 11).index t = ![0, 0, t.val] ∧ ((cfgI m).win 12).index t = ![t.val, 0] ∧
    ((cfgI m).win 13).index t = ![t.val, 0] ∧ ((cfgI m).win 14).index t = ![t.val, 0] :=
  have h := maps t
  ⟨h.1, map_mod m t, h.2.1, h.2.2.1, h.2.2.2.1, h.2.2.2.2.1, h.2.2.2.2.2.1, h.2.2.2.2.2.2⟩

theorem t_lt (t : Fin (cfgI m).N) : t.val < 64 := lt_of_lt_of_eq t.isLt N_0

/-- The row of the arrays that a point has at place `q`. -/
def row (t : Fin (cfgI m).N) (q : Fin 512) : Fin 32768 := ⟨512 * t.val + q, by have := t_lt m t; omega⟩

/-- A point's rows. -/
theorem blk_x (c : Dev nD) (t : Fin (cfgI m).N) (q : Fin 512) (j : Fin 1024) :
    (iblk m (ok m) c 0 t : S512x1024.Idx → EReal) (ix2 q j) = argX m c (ix2 (row m t q) j) := by
  blk_simp [iblk]
  have e : ((((cfgI m).win 0).blk t).view.emb (ix2 q j) : S32768x1024.Idx) = ix2 (row m t q) j := by
    blk_ext [idx m t, row]
  exact congrArg (V m c main_arg0) e

/-- All of a point's rows are of one sequence. -/
theorem seq_row (t : Fin (cfgI m).N) (q : Fin 512) :
    (InProj.seqOf (row m t q) : ℕ) = if t.val < 32 then 0 else t.val / 8 - 3 := by
  have ht := t_lt m t
  show (if 512 * t.val + (q : ℕ) < 16384 then 0 else (512 * t.val + (q : ℕ)) / 4096 - 3) = _
  by_cases h : t.val < 32
  · rw [if_pos h, if_pos (by omega)]
  · rw [if_neg h, if_neg (by omega)]; omega

/-- A point's modulation: that of its rows' sequence. -/
theorem blk_mod (c : Dev nD) (t : Fin (cfgI m).N) (q : Fin 512) (p : Fin 6) (j : Fin 1024) :
    (iblk m (ok m) c 1 t : S1x6x1024.Idx → EReal) (ix3 0 p j) = argMod m c (ix3 (InProj.seqOf (row m t q)) p j) := by
  blk_simp [iblk]
  have ht := t_lt m t
  have e : ((((cfgI m).win 1).blk t).view.emb (ix3 0 p j) : S8x6x1024.Idx) = ix3 (InProj.seqOf (row m t q)) p j := by
    blk_ext [idx m t, seq_row m t q]
  exact congrArg (V m c main_arg1) e

/-- The gains. -/
theorem blk_g (c : Dev nD) (t : Fin (cfgI m).N) (j : Fin 1024) :
    (iblk m (ok m) c 2 t : S1x1024.Idx → EReal) (ix2 0 j) = argG m c (ix1 j) := by
  blk_simp [iblk]
  have e : ((((cfgI m).win 2).blk t).view.emb (ix2 0 j) : S1x1024.Idx) = ix2 0 j := by
    blk_ext [idx m t]
  refine (congrArg (V m c main_v7) e).trans ?_
  entry_read
  pointwise

/-- The weights. -/
theorem blk_w (c : Dev nD) (t : Fin (cfgI m).N) (j : Fin 1024) (k : Fin 4352) :
    (iblk m (ok m) c 3 t : S1024x4352.Idx → EReal) (ix2 j k) = argW m c (ix2 j k) := by
  blk_simp [iblk]
  have e : ((((cfgI m).win 3).blk t).view.emb (ix2 j k) : S1024x4352.Idx) = ix2 j k := by
    blk_ext [idx m t]
  refine (congrArg (V m c main_v8) e).trans ?_
  entry_read
  pointwise

/-- A point's projected rows. -/
theorem blk_proj (c : Dev nD) (t : Fin (cfgI m).N) (q : Fin 512) (k : Fin 4352) :
    zBlock (iblk m (ok m) c 0 t) (iblk m (ok m) c 1 t) (iblk m (ok m) c 2 t) (iblk m (ok m) c 3 t) q k =
      InProj.proj (argX m c) (argMod m c) (argG m c) (argW m c) (row m t q) k := by
  unfold zBlock InProj.proj InProj.hid
  simp only [blk_x, blk_mod m c t q, blk_g, blk_w]

theorem after_pool (c : Dev nD) (t : Fin (cfgI m).N) (q : Fin 512) (y : Fin 256) :
    ((outsAt0 m (ok m) c t).2.2.2.1 : S512x256.Idx → EReal) (ix2 q y) =
      InProj.proj (argX m c) (argMod m c) (argG m c) (argW m c) (row m t q) ⟨768 + y, by omega⟩ := by
  unfold outsAt0
  dsimp only
  refine (out_pool c (grid0.coords t) (ms0_0 m (ok m) t) (hs0_0 m (ok m) t) (ms0_1 m (ok m) t) (hs0_1 m (ok m) t) (ms0_2 m (ok m)
    t) (hs0_2 m (ok m) t) (ms0_3 m (ok m) t) (hs0_3 m (ok m) t) (ms0_4 m (ok m) t) (hs0_4 m (ok m) t) (ms0_5 m (ok
    m) t) (hs0_5 m (ok m) t) (ms0_6 m (ok m) t) (hs0_6 m (ok m) t) (ms0_7 m (ok m) t) (hs0_7 m (ok m) t) (ms0_8 m
    (ok m) t) (hs0_8 m (ok m) t) (ms0_9 m (ok m) t) (hs0_9 m (ok m) t) (ms0_10 m (ok m) t) (hs0_10 m (ok m) t)
    (ms0_11 m (ok m) t) (hs0_11 m (ok m) t) (ms0_12 m (ok m) t) (hs0_12 m (ok m) t) (ms0_13 m (ok m) t) (hs0_13 m
    (ok m) t) (ms0_14 m (ok m) t) (hs0_14 m (ok m) t) (iblk m (ok m) c 0 t) (iblk m (ok m) c 1 t) (iblk m (ok m) c 2
    t) (iblk m (ok m) c 3 t) (iblk m (ok m) c 4 t) (iblk m (ok m) c 5 t) (iblk m (ok m) c 6 t) (iblk m (ok m) c 7 t)
    (iblk m (ok m) c 8 t) (tbl m 0)
    q y).trans ?_
  exact blk_proj m c t q _

/-- The rows for the pooling. -/
theorem pool_eq (c : Dev nD) (r : Fin 32768) (y : Fin 256) :
    ((dats m (ok m) 0 c).arrAt 12 (cfgI m).N : S32768x256.Idx → EReal) (ix2 r y) =
      InProj.proj (argX m c) (argMod m c) (argG m c) (argW m c) r ⟨768 + y, by omega⟩ := by
  let f : Fin 32768 → Fin 256 → EReal := fun r y => InProj.proj (argX m c) (argMod m c) (argG m c) (argW m c) r ⟨768 + y, by omega⟩
  have key : (dats m (ok m) 0 c).arrAt 12 (cfgI m).N = fun i : S32768x256.Idx => f (i 0) (i 1) := by
    refine (dats m (ok m) 0 c).arrAt_eq_of_covers 12 _ (of_decide_eq_true (by sl_kernel_rfl))
      (fun t hf (y : S512x256.Idx) => ?_)
    rw [after0_12]
    idx_vars y
    have e : ((((cfgI m).win 12).blk t).view.emb (ix2 y0 y1) : S32768x256.Idx) = ix2 (row m t y0) y1 := by
      blk_ext [idx m t, row]
    refine Eq.trans ?_ (congrArg (fun i : S32768x256.Idx => f (i 0) (i 1)) e).symm
    exact after_pool m c t y0 y1
  exact congrFun key (ix2 r y)

theorem after_ssm (c : Dev nD) (t : Fin (cfgI m).N) (q : Fin 512) (y : Fin 256) :
    ((outsAt0 m (ok m) c t).2.2.2.2.1 : S512x256.Idx → EReal) (ix2 q y) =
      InProj.proj (argX m c) (argMod m c) (argG m c) (argW m c) (row m t q) ⟨768 + (256 + y), by omega⟩ := by
  unfold outsAt0
  dsimp only
  refine (out_ssm c (grid0.coords t) (ms0_0 m (ok m) t) (hs0_0 m (ok m) t) (ms0_1 m (ok m) t) (hs0_1 m (ok m) t) (ms0_2 m (ok m)
    t) (hs0_2 m (ok m) t) (ms0_3 m (ok m) t) (hs0_3 m (ok m) t) (ms0_4 m (ok m) t) (hs0_4 m (ok m) t) (ms0_5 m (ok
    m) t) (hs0_5 m (ok m) t) (ms0_6 m (ok m) t) (hs0_6 m (ok m) t) (ms0_7 m (ok m) t) (hs0_7 m (ok m) t) (ms0_8 m
    (ok m) t) (hs0_8 m (ok m) t) (ms0_9 m (ok m) t) (hs0_9 m (ok m) t) (ms0_10 m (ok m) t) (hs0_10 m (ok m) t)
    (ms0_11 m (ok m) t) (hs0_11 m (ok m) t) (ms0_12 m (ok m) t) (hs0_12 m (ok m) t) (ms0_13 m (ok m) t) (hs0_13 m
    (ok m) t) (ms0_14 m (ok m) t) (hs0_14 m (ok m) t) (iblk m (ok m) c 0 t) (iblk m (ok m) c 1 t) (iblk m (ok m) c 2
    t) (iblk m (ok m) c 3 t) (iblk m (ok m) c 4 t) (iblk m (ok m) c 5 t) (iblk m (ok m) c 6 t) (iblk m (ok m) c 7 t)
    (iblk m (ok m) c 8 t) (tbl m 0)
    q y).trans ?_
  exact blk_proj m c t q _

/-- The rows for the recurrence. -/
theorem ssm_eq (c : Dev nD) (r : Fin 32768) (y : Fin 256) :
    ((dats m (ok m) 0 c).arrAt 13 (cfgI m).N : S32768x256.Idx → EReal) (ix2 r y) =
      InProj.proj (argX m c) (argMod m c) (argG m c) (argW m c) r ⟨768 + (256 + y), by omega⟩ := by
  let f : Fin 32768 → Fin 256 → EReal := fun r y => InProj.proj (argX m c) (argMod m c) (argG m c) (argW m c) r ⟨768 + (256 + y), by omega⟩
  have key : (dats m (ok m) 0 c).arrAt 13 (cfgI m).N = fun i : S32768x256.Idx => f (i 0) (i 1) := by
    refine (dats m (ok m) 0 c).arrAt_eq_of_covers 13 _ (of_decide_eq_true (by sl_kernel_rfl))
      (fun t hf (y : S512x256.Idx) => ?_)
    rw [after0_13]
    idx_vars y
    have e : ((((cfgI m).win 13).blk t).view.emb (ix2 y0 y1) : S32768x256.Idx) = ix2 (row m t y0) y1 := by
      blk_ext [idx m t, row]
    refine Eq.trans ?_ (congrArg (fun i : S32768x256.Idx => f (i 0) (i 1)) e).symm
    exact after_ssm m c t y0 y1
  exact congrFun key (ix2 r y)

theorem after_gates (c : Dev nD) (t : Fin (cfgI m).N) (q : Fin 512) (y : Fin 3072) :
    ((outsAt0 m (ok m) c t).2.2.2.2.2 : S512x3072.Idx → EReal) (ix2 q y) =
      Ideal.logistic (InProj.proj (argX m c) (argMod m c) (argG m c) (argW m c) (row m t q) ⟨1280 + y, by omega⟩) := by
  unfold outsAt0
  dsimp only
  refine (out_gates c (grid0.coords t) (ms0_0 m (ok m) t) (hs0_0 m (ok m) t) (ms0_1 m (ok m) t) (hs0_1 m (ok m) t) (ms0_2 m (ok m)
    t) (hs0_2 m (ok m) t) (ms0_3 m (ok m) t) (hs0_3 m (ok m) t) (ms0_4 m (ok m) t) (hs0_4 m (ok m) t) (ms0_5 m (ok
    m) t) (hs0_5 m (ok m) t) (ms0_6 m (ok m) t) (hs0_6 m (ok m) t) (ms0_7 m (ok m) t) (hs0_7 m (ok m) t) (ms0_8 m
    (ok m) t) (hs0_8 m (ok m) t) (ms0_9 m (ok m) t) (hs0_9 m (ok m) t) (ms0_10 m (ok m) t) (hs0_10 m (ok m) t)
    (ms0_11 m (ok m) t) (hs0_11 m (ok m) t) (ms0_12 m (ok m) t) (hs0_12 m (ok m) t) (ms0_13 m (ok m) t) (hs0_13 m
    (ok m) t) (ms0_14 m (ok m) t) (hs0_14 m (ok m) t) (iblk m (ok m) c 0 t) (iblk m (ok m) c 1 t) (iblk m (ok m) c 2
    t) (iblk m (ok m) c 3 t) (iblk m (ok m) c 4 t) (iblk m (ok m) c 5 t) (iblk m (ok m) c 6 t) (iblk m (ok m) c 7 t)
    (iblk m (ok m) c 8 t) (tbl m 0)
    q y).trans ?_
  exact congrArg Ideal.logistic (blk_proj m c t q _)

/-- The gates. -/
theorem gates_eq (c : Dev nD) (r : Fin 32768) (y : Fin 3072) :
    ((dats m (ok m) 0 c).arrAt 14 (cfgI m).N : S32768x3072.Idx → EReal) (ix2 r y) =
      Ideal.logistic (InProj.proj (argX m c) (argMod m c) (argG m c) (argW m c) r ⟨1280 + y, by omega⟩) := by
  let f : Fin 32768 → Fin 3072 → EReal := fun r y => Ideal.logistic (InProj.proj (argX m c) (argMod m c) (argG m c) (argW m c) r ⟨1280 + y, by omega⟩)
  have key : (dats m (ok m) 0 c).arrAt 14 (cfgI m).N = fun i : S32768x3072.Idx => f (i 0) (i 1) := by
    refine (dats m (ok m) 0 c).arrAt_eq_of_covers 14 _ (of_decide_eq_true (by sl_kernel_rfl))
      (fun t hf (y : S512x3072.Idx) => ?_)
    rw [after0_14]
    idx_vars y
    have e : ((((cfgI m).win 14).blk t).view.emb (ix2 y0 y1) : S32768x3072.Idx) = ix2 (row m t y0) y1 := by
      blk_ext [idx m t, row]
    refine Eq.trans ?_ (congrArg (fun i : S32768x3072.Idx => f (i 0) (i 1)) e).symm
    exact after_gates m c t y0 y1
  exact congrFun key (ix2 r y)

theorem after_values (c : Dev nD) (t : Fin (cfgI m).N) (j : Fin 2) (d : Fin 80) (q : Fin 512) :
    ((outsAt0 m (ok m) c t).2.2.1 : S2x80x512.Idx → EReal) (ix3 j d q) = InProj.value (argX m c) (argMod m c) (argG m c) (argW m c) j d (row m t q) := by
  unfold outsAt0
  dsimp only
  refine (out_values c (grid0.coords t) (ms0_0 m (ok m) t) (hs0_0 m (ok m) t) (ms0_1 m (ok m) t) (hs0_1 m (ok m) t) (ms0_2 m (ok m)
    t) (hs0_2 m (ok m) t) (ms0_3 m (ok m) t) (hs0_3 m (ok m) t) (ms0_4 m (ok m) t) (hs0_4 m (ok m) t) (ms0_5 m (ok
    m) t) (hs0_5 m (ok m) t) (ms0_6 m (ok m) t) (hs0_6 m (ok m) t) (ms0_7 m (ok m) t) (hs0_7 m (ok m) t) (ms0_8 m
    (ok m) t) (hs0_8 m (ok m) t) (ms0_9 m (ok m) t) (hs0_9 m (ok m) t) (ms0_10 m (ok m) t) (hs0_10 m (ok m) t)
    (ms0_11 m (ok m) t) (hs0_11 m (ok m) t) (ms0_12 m (ok m) t) (hs0_12 m (ok m) t) (ms0_13 m (ok m) t) (hs0_13 m
    (ok m) t) (ms0_14 m (ok m) t) (hs0_14 m (ok m) t) (iblk m (ok m) c 0 t) (iblk m (ok m) c 1 t) (iblk m (ok m) c 2
    t) (iblk m (ok m) c 3 t) (iblk m (ok m) c 4 t) (iblk m (ok m) c 5 t) (iblk m (ok m) c 6 t) (iblk m (ok m) c 7 t)
    (iblk m (ok m) c 8 t) (tbl m 0)
    j d q).trans ?_
  unfold InProj.value
  split
  · exact blk_proj m c t q _
  · rfl

/-- The values. -/
theorem values_eq (c : Dev nD) (j : Fin 2) (d : Fin 80) (r : Fin 32768) :
    ((dats m (ok m) 0 c).arrAt 11 (cfgI m).N : S2x80x32768.Idx → EReal) (ix3 j d r) = InProj.value (argX m c) (argMod m c) (argG m c) (argW m c) j d r := by
  let f : Fin 2 → Fin 80 → Fin 32768 → EReal := InProj.value (argX m c) (argMod m c) (argG m c) (argW m c)
  have key : (dats m (ok m) 0 c).arrAt 11 (cfgI m).N = fun i : S2x80x32768.Idx => f (i 0) (i 1) (i 2) := by
    refine (dats m (ok m) 0 c).arrAt_eq_of_covers 11 _ (of_decide_eq_true (by sl_kernel_rfl))
      (fun t hf (y : S2x80x512.Idx) => ?_)
    rw [after0_11]
    idx_vars y
    have e : ((((cfgI m).win 11).blk t).view.emb (ix3 y0 y1 y2) : S2x80x32768.Idx) = ix3 y0 y1 (row m t y2) := by
      blk_ext [idx m t, row]
    refine Eq.trans ?_ (congrArg (fun i : S2x80x32768.Idx => f (i 0) (i 1) (i 2)) e).symm
    exact after_values m c t y0 y1 y2
  exact congrFun key (ix3 j d r)

/-- The call runs, its outputs end as its points leave them, its arguments as they were. -/
theorem run (g : Dev nD → PrngReg) : θ_run defs (onTc (τ := τ) (main (F := Ideal))) ⟨m, fun _ => 0, g⟩ (fun r => ∀ c : Dev nD,
    (r.2.mem ((c : Thread nD τ).loc main_v26_2) = (dats m (ok m) 0 c).arrAt 11 (cfgI m).N
      ∧ r.2.mem ((c : Thread nD τ).loc main_v26_3) = (dats m (ok m) 0 c).arrAt 12 (cfgI m).N
      ∧ r.2.mem ((c : Thread nD τ).loc main_v26_4) = (dats m (ok m) 0 c).arrAt 13 (cfgI m).N
      ∧ r.2.mem ((c : Thread nD τ).loc main_v26_5) = (dats m (ok m) 0 c).arrAt 14 (cfgI m).N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) :=
  (θ_run defs _ _).mono (fun _ h c => ⟨⟨(h c).1 11, (h c).1 12, (h c).1 13, (h c).1 14⟩,
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).1 8).trans (((dats m (ok m) 0 c).arrAt_in 8 rfl _).trans ((A_eq m (ok m) c 8).trans (V_main_arg8 m c)))⟩)
    (run_main m g (ok m))

end Cert.Kernel3Ideal.Value

end
-- ==== Proof.Ref3Value.lean ====
/-
  The third reference's results: the input projection of Spec3.lean.
-/
module

public import proofs.«01_k».proof.Proof.Gen.Reference3Ideal.Read
public import proofs.«01_k».proof.Proof.Spec3
public import Idealize.ShloMosaic.Lib.Pipeline.ValueKit

@[expose] public section

set_option maxRecDepth 16384

noncomputable section

namespace Cert.Reference3Ideal.Read

open Cert.Reference3Ideal Cert.Reference3Ideal.Gen Idealize.ShloMosaic Idealize.ShloMosaic.TcCoe Idealize.SL.Sem
open Cert.Proof

variable (x : FVec Ideal S32768x1024 .f32) (mod : FVec Ideal S8x6x1024 .f32) (g : FVec Ideal S1024 .f32)
variable (w : FVec Ideal S1024x4352 .f32)

/-- The prompt's normalised rows. -/
theorem hid_prompt (r : Fin 16384) (j : Fin 1024) :
    (val_main_v25 (F := Ideal) x mod g) (ix2 r j) = InProj.hid x mod g ⟨r, by omega⟩ j := by
  unfold InProj.hid
  rw [InProj.seqOf_prompt _ r.isLt]
  pointwise [val_main_v25, val_main_v24, val_main_v23, val_main_v22, val_main_v21, val_main_v20, val_main_v19,
    val_main_cst_2, val_main_v18, val_main_v17, val_main_v16, val_main_v15, val_main_v14, val_main_v13, val_main_v12,
    val_main_v11, val_main_v10, val_main_cst_1, val_main_v9, val_main_v8, val_main_cst_0, val_main_v7, val_main_v6,
    val_main_cst, val_main_v5, val_main_v4, val_main_v3, val_main_v2, val_main_v1, val_main_v0]
  rfl

/-- The samples' normalised rows. -/
theorem hid_sample (b : Fin 4) (t : Fin 4096) (j : Fin 1024) :
    (val_main_v50 (F := Ideal) x mod g) (ix3 b t j) =
      InProj.hid x mod g ⟨16384 + (b * 4096 + t), by omega⟩ j := by
  unfold InProj.hid
  rw [InProj.seqOf_sample _ b t (by show 16384 + ((b : ℕ) * 4096 + t) = _; ring)]
  pointwise [val_main_v50, val_main_v49, val_main_v48, val_main_v47, val_main_v46, val_main_v45, val_main_v44,
    val_main_v43, val_main_cst_6, val_main_v42, val_main_v41, val_main_v40, val_main_v39, val_main_v38, val_main_v37,
    val_main_v36, val_main_v35, val_main_v34, val_main_v33, val_main_cst_5, val_main_v32, val_main_v31, val_main_cst_4,
    val_main_v30, val_main_v29, val_main_cst_3, val_main_v28, val_main_v27, val_main_v26, val_main_v3, val_main_v2,
    val_main_v1, val_main_v0]
  rfl

/-- The normalised rows. -/
theorem hid_eq (r : Fin 32768) (j : Fin 1024) :
    (val_main_v52 (F := Ideal) x mod g) (ix2 r j) = InProj.hid x mod g r j := by
  pointwise [val_main_v52]
  by_cases hr : (r : ℕ) < 16384
  · rw [dif_pos hr]
    exact hid_prompt x mod g ⟨r, hr⟩ j
  · rw [dif_neg hr]
    pointwise [val_main_v51]
    rw [hid_sample]
    refine congrArg (fun z => InProj.hid x mod g z j) (Fin.ext ?_)
    show 16384 + (_ * 4096 + _) = (r : ℕ)
    simp
    omega

/-- The projected rows, from column 640 of the weights on. -/
theorem proj_eq (r : Fin 32768) (y : Fin 3712) :
    (val_main_v54 (F := Ideal) x mod g w) (ix2 r y) = InProj.proj x mod g w r ⟨640 + y, by omega⟩ := by
  unfold InProj.proj
  pointwise [val_main_v54]
  refine Finset.sum_congr rfl fun i _ => ?_
  rw [hid_eq]
  pointwise [val_main_v53]

/-- The transposed values with their rows of ones. -/
theorem values_eq (h : Fin 2) (d : Fin 80) (t : Fin 32768) :
    (val_main_v63 (F := Ideal) x mod g w) (ix3 h d t) = InProj.value x mod g w h d t := by
  unfold InProj.value
  pointwise [val_main_v63, val_main_v62]
  by_cases hd : (d : ℕ) < 64
  · rw [dif_pos hd, dif_pos hd]
    pointwise [val_main_v60]
    pointwise [val_main_v59]
    pointwise [val_main_v55]
    rw [proj_eq]
    refine congrArg (InProj.proj x mod g w t) (Fin.ext ?_)
    show 640 + _ = _
    simp [Nat.mul_comm]
  · rw [dif_neg hd, dif_neg hd]
    pointwise [val_main_v61, val_main_cst_7]

/-- The rows for the pooling. -/
theorem pool_eq (r : Fin 32768) (y : Fin 256) :
    (val_main_v56 (F := Ideal) x mod g w) (ix2 r y) = InProj.proj x mod g w r ⟨768 + y, by omega⟩ := by
  pointwise [val_main_v56]
  rw [proj_eq]
  refine congrArg (InProj.proj x mod g w r) (Fin.ext ?_)
  show 640 + (128 + (y : ℕ)) = 768 + y
  omega

/-- The rows for the recurrence. -/
theorem ssm_eq (r : Fin 32768) (y : Fin 256) :
    (val_main_v57 (F := Ideal) x mod g w) (ix2 r y) = InProj.proj x mod g w r ⟨1024 + y, by omega⟩ := by
  pointwise [val_main_v57]
  rw [proj_eq]
  refine congrArg (InProj.proj x mod g w r) (Fin.ext ?_)
  show 640 + (384 + (y : ℕ)) = 1024 + y
  omega

/-- The gates. -/
theorem gates_eq (r : Fin 32768) (y : Fin 3072) :
    (val_main_v70 (F := Ideal) x mod g w) (ix2 r y) =
      Ideal.logistic (InProj.proj x mod g w r ⟨1280 + y, by omega⟩) := by
  pointwise [val_main_v70, val_main_v69, val_main_v68, val_main_cst_9, val_main_v67, val_main_v66, val_main_cst_8,
    val_main_v65, val_main_v64, val_main_v58]
  rw [proj_eq]
  have e : (⟨640 + (640 + (y : ℕ)), by omega⟩ : Fin 4352) = ⟨1280 + y, by omega⟩ := Fin.ext (by show 640 + (640 + (y : ℕ)) = 1280 + y; omega)
  rw [e]
  rfl

end Cert.Reference3Ideal.Read

end
-- ==== Proof.Kernel2Step.lean ====
/-
  What one grid point of the samples' call leaves in its output block: the functions of Step.lean, at the point's blocks
  of queries, keys and values.
-/
module

public import proofs.«01_k».proof.Proof.Gen.Kernel2Ideal.Value
public import proofs.«01_k».proof.Proof.Step
public import proofs.«01_k».proof.Proof.Consts
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Proof

variable (m : (ℓ : Loc nD τ sig) → Buf (Elt Ideal) ℓ)

/-- The output block of a point, from its blocks: one block of keys, so the carried maxima and sums are the initial ones. -/
theorem out_eq (c : Dev nD) (t : Fin cfg0.N) :
    outsAt0 m c t =
      Step.outBlock (Step.sumBlock (iblk m c 0 t) (iblk m c 1 t) (iblk m c 2 t) (fun _ => ⊥) (fun _ => 0)) := by
  unfold outsAt0
  generalize iblk m c 0 t = x0
  generalize iblk m c 1 t = x1
  generalize iblk m c 2 t = x2
  funext y
  frame_open
  simp (disch := decide) only [↓ View.readCov_skip, ↓ View.readCov_cons_toLoadRect, ↓ View.readCov_fill]
  frame_out
  canon_tiles x h
  all_goals
    idx_vars y
    idx_vars x
    obtain rfl : y0 = x0 := Fin.ext (by simpa using h0)
    have e : ∃ h : Fin 4, (y1 : ℕ) = 64 * h + x1 := ⟨⟨((y1 : ℕ) - x1) / 64, by omega⟩, by
      show (y1 : ℕ) = 64 * (((y1 : ℕ) - x1) / 64) + x1
      omega⟩
    obtain ⟨h, e⟩ := e
    rw [Step.outBlock_apply _ y0 y1 h x1 e]
    unfold_payloads
    pointwise [Step.sumBlock, Step.newSum, Step.newMax, Step.score]
    simp only [Consts.neg_inf]
    fin_cases h <;> first | (simp at e; omega) | rfl

end Cert.Kernel2Ideal.Value

end
-- ==== Proof.Kernel2Value.lean ====
/-
  The samples' call: the rows of the four samples hold the attention of Spec.lean over each sample's own tokens, the
  prompt's rows what the call was given.
-/
module

public import proofs.«01_k».proof.Proof.Kernel2Step
public import proofs.«01_k».proof.Proof.Spec

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Cert.Proof

variable (m : (ℓ : Loc nD τ sig) → Buf (Elt Ideal) ℓ)

/-- The argument arrays, as functions into the extended reals. -/
abbrev argQ (c : Dev nD) : Spec.SQ.Idx → EReal := m ((c : Thread nD τ).loc main_arg0)
abbrev argK (c : Dev nD) : Spec.SK.Idx → EReal := m ((c : Thread nD τ).loc main_arg1)
abbrev argV (c : Dev nD) : Spec.SK.Idx → EReal := m ((c : Thread nD τ).loc main_arg2)
abbrev argPrev (c : Dev nD) : S32768x512.Idx → EReal := m ((c : Thread nD τ).loc main_arg3)

/-- The index maps of the windows over the grid. -/
theorem idx : ∀ t : Fin cfg0.N, win0_0.index t = ![t.val / 32, 32 + t.val % 32, 0] ∧
    win0_1.index t = ![t.val / 32, 4 + t.val / 8 % 4, 0] ∧ win0_2.index t = ![t.val / 32, 0, 4 + t.val / 8 % 4] ∧
    win0_3.index t = ![32 + t.val % 32, t.val / 32] :=
  (by decide +kernel : ∀ t : Fin grid0.N, _)

/-- The head of queries that a point's block has at place `h`. -/
def head (t : Fin cfg0.N) (h : Fin 4) : Fin 8 :=
  ⟨4 * (t.val / 32) + h, by have := lt_of_lt_of_eq t.isLt (show cfg0.N = 64 from N_0); omega⟩

/-- The query token that a point's block has at place `q`. -/
def row (t : Fin cfg0.N) (q : Fin 512) : ℕ := 512 * (32 + t.val % 32) + q

/-- The first token of the sample that a point's block is about. -/
def first (t : Fin cfg0.N) : ℕ := Spec.start (t.val / 8 % 4)

/-- A point's queries. -/
theorem blk_q (c : Dev nD) (t : Fin cfg0.N) (h : Fin 4) (q : Fin 512) (e : Fin 64) :
    (iblk m c 0 t : S4x512x64.Idx → EReal) (ix3 h q e) =
      argQ m c (ix3 (head t h) (Spec.tok (row t q)) e) * ((0.125 * (Real.log 2)⁻¹ : ℝ) : EReal) := by
  blk_simp [iblk]
  have e : (win0_0.blk t).view.emb (ix3 h q e) = ix3 (head t h) (Spec.tok (row t q)) e := by
    blk_ext [idx t, Spec.tok, head, row]
  rw [e]
  entry_read
  pointwise
  rw [Consts.scale]

/-- A point's keys. -/
theorem blk_k (c : Dev nD) (t : Fin cfg0.N) (h : Fin 4) (k : Fin 4096) (e : Fin 64) :
    (iblk m c 1 t : S1x4096x64.Idx → EReal) (ix3 0 k e) =
      argK m c (ix3 (Spec.kvHead (head t h)) (Spec.tok (first t + k)) e) := by
  blk_simp [iblk]
  have e : (win0_1.blk t).view.emb (ix3 0 k e) = ix3 (Spec.kvHead (head t h)) (Spec.tok (first t + k)) e := by
    blk_ext [idx t, Spec.tok, head, Spec.kvHead, first, Spec.start]
  rw [e]
  entry_read
  pointwise

/-- A point's values, transposed; the rows after the 64 coordinates are ones. -/
theorem blk_v (c : Dev nD) (t : Fin cfg0.N) (h : Fin 4) (d : Fin 80) (k : Fin 4096) :
    (iblk m c 2 t : S1x80x4096.Idx → EReal) (ix3 0 d k) =
      if hd : (d : ℕ) < 64 then
        argV m c (ix3 (Spec.kvHead (head t h)) (Spec.tok (first t + k)) ⟨d, hd⟩) else 1 := by
  blk_simp [iblk]
  have e : (win0_2.blk t).view.emb (ix3 0 d k) = ix3 (Spec.kvHead (head t h)) d (Spec.tok (first t + k)) := by
    blk_ext [idx t, Spec.tok, head, Spec.kvHead, first, Spec.start]
  rw [e]
  entry_read
  pointwise

/-- The base-2 scores and the values of a point's one block of keys. -/
def T (c : Dev nD) (t : Fin cfg0.N) (h : Fin 4) (q : Fin 512) (b : ℕ) (u : Fin 4096) : ℝ :=
  Spec.score (argQ m c) (argK m c) (head t h) (row t q) (first t + (4096 * b + u)) * (Real.log 2)⁻¹
def U (c : Dev nD) (t : Fin cfg0.N) (h : Fin 4) (d : Fin 80) (b : ℕ) (u : Fin 4096) : EReal :=
  if hd : (d : ℕ) < 64 then
    argV m c (ix3 (Spec.kvHead (head t h)) (Spec.tok (first t + (4096 * b + u))) ⟨d, hd⟩) else 1

/-- The scores of a point's blocks. -/
theorem blk_score (c : Dev nD) (hq : Spec.Real (argQ m c)) (hk : Spec.Real (argK m c)) (t : Fin cfg0.N) (h : Fin 4)
    (q : Fin 512) (u : Fin 4096) :
    Step.score (iblk m c 0 t) (iblk m c 1 t) h q u = ((T m c t h q 0 u : ℝ) : EReal) := by
  unfold T Step.score
  rw [← Spec.score_sum hq hk, mul_zero, zero_add]
  refine Finset.sum_congr rfl fun e _ => ?_
  exact congrArg₂ (· * ·) (blk_k m c t h u e) (blk_q m c t h q e)

/-- A point's maxima and sums are those of its one block. -/
theorem inv (c : Dev nD) (hq : Spec.Real (argQ m c)) (hk : Spec.Real (argK m c)) (h : Fin 4) (q : Fin 512) (d : Fin 80)
    (t : Fin cfg0.N) :
    Softmax.Inv (T m c t h q) (U m c t h d) 1
      (Step.maxBlock (iblk m c 0 t) (iblk m c 1 t) (fun _ => ⊥) (ix3 h 0 q))
      (Step.sumBlock (iblk m c 0 t) (iblk m c 1 t) (iblk m c 2 t) (fun _ => ⊥) (fun _ => 0) (ix3 h d q)) := by
  refine Step.inv_block (blk_score m c hq hk t h q) (fun k => ?_) (Softmax.inv_zero _ _)
  exact (blk_v m c t h d k).trans (by rw [U, mul_zero, zero_add])

/-- A point's output block: attention over the sample's tokens. -/
theorem out_attn (c : Dev nD) (hq : Spec.Real (argQ m c)) (hk : Spec.Real (argK m c)) (t : Fin cfg0.N)
    (q : Fin 512) (y : Fin 256) (h : Fin 4) (d : Fin 64) (e : (y : ℕ) = 64 * h + d) :
    outsAt0 m c t (ix2 q y) =
      Spec.attn 4096 (first t) (argQ m c) (argK m c) (argV m c) (head t h) (row t q) d := by
  rw [out_eq, Step.outBlock_apply _ q y h d e]
  have hd := inv m c hq hk h q ⟨d, by omega⟩ t
  have h1 := inv m c hq hk h q 64 t
  have hU : U m c t h ⟨d, by omega⟩ =
      fun b (u : Fin 4096) => argV m c (ix3 (Spec.kvHead (head t h)) (Spec.tok (first t + (4096 * b + u))) d) := by
    funext b u; exact dif_pos d.isLt
  have hU1 : U m c t h 64 = fun _ _ => 1 := by
    funext b u; exact dif_neg (by decide)
  rw [hU] at hd
  rw [hU1] at h1
  exact Spec.attn_of_inv (by norm_num) (by norm_num) (first t) hd h1

/-- A point's output block in the place it has in the result. -/
theorem blk_sample (c : Dev nD) (hq : Spec.Real (argQ m c)) (hk : Spec.Real (argK m c)) (t : Fin cfg0.N) (q : Fin 512)
    (y : Fin 256) (r : Fin 32768) (z : Fin 512) (hr : (r : ℕ) = row t q) (hz : (z : ℕ) = 256 * (t.val / 32) + y) :
    outsAt0 m c t (ix2 q y) = Spec.sample (argQ m c) (argK m c) (argV m c) (argPrev m c) r z := by
  have e : t.val < 64 := lt_of_lt_of_eq t.isLt N_0
  unfold row at hr
  rw [out_attn m c hq hk t q y ⟨(y : ℕ) / 64, by omega⟩ (Spec.colCoord z)
    (by show (y : ℕ) = 64 * ((y : ℕ) / 64) + (z : ℕ) % 64; omega)]
  unfold Spec.sample
  rw [if_neg (by omega)]
  congr 1
  · show Spec.start (t.val / 8 % 4) = _
    congr 1; omega
  · refine Fin.ext ?_
    show 4 * (t.val / 32) + (y : ℕ) / 64 = (z : ℕ) / 64
    omega
  · exact hr.symm

/-- The call's result: the rows of the samples are written, the others hold what the call was given. -/
theorem result_eq (c : Dev nD) (hq : Spec.Real (argQ m c)) (hk : Spec.Real (argK m c)) (r : Fin 32768) (y : Fin 512) :
    ((dats m 0 c).arrAt 3 cfg0.N : S32768x512.Idx → EReal) (ix2 r y) =
      Spec.sample (argQ m c) (argK m c) (argV m c) (argPrev m c) r y := by
  have key : (dats m 0 c).arrAt 3 cfg0.N = fun i : S32768x512.Idx => if 32 ≤ (i 0 : ℕ) / 512 then
      Spec.sample (argQ m c) (argK m c) (argV m c) (argPrev m c) (i 0) (i 1) else (dats m 0 c).A 3 i := by
    refine (dats m 0 c).arrAt_eq_of_coversWhere 3 _ (fun β => 32 ≤ β (0 : Fin _)) (by decide +kernel)
      (fun t hf y => ?_) (fun j => Iff.rfl)
    blk_simp
    rw [after0_3]
    idx_vars y
    have e : t.val < 64 := lt_of_lt_of_eq t.isLt N_0
    have e0 : ((View.whole main_v11).slice (win0_3.rect t)).emb (ix2 y0 y1) =
        ix2 (⟨512 * (32 + t.val % 32) + y0, by omega⟩ : Fin 32768) (⟨256 * (t.val / 32) + y1, by omega⟩ : Fin 512) := by
      blk_ext [idx t]
    rw [e0]
    exact blk_sample m c hq hk t y0 y1 _ _ rfl rfl
  rw [key]
  show (if 32 ≤ (r : ℕ) / 512 then Spec.sample (argQ m c) (argK m c) (argV m c) (argPrev m c) r y
    else (dats m 0 c).A 3 (ix2 r y)) = _
  split
  · rfl
  · rw [A_eq]
    entry_read
    unfold Spec.sample
    rw [if_pos (by omega)]

end Cert.Kernel2Ideal.Value

end
-- ==== Proof.HostMax.lean ====
/- The largest entry along the last axis of a rank-5 array of real numbers, as the reference takes it, is a real number. -/
module

public import proofs.«01_k».proof.Proof.Softmax
public import proofs.«01_k».proof.Proof.Consts
public import Idealize.ShloMosaic.Lib.Pointwise

@[expose] public section

noncomputable section

namespace Cert.Proof.HostMax

open Idealize.ShloMosaic

/-- The host's maximum along the last axis is the largest entry, started from the initial value. -/
theorem apply {n0 n1 n2 n3 n4 : ℕ} (x : FVec Ideal ⟨5, ![n0, n1, n2, n3, n4]⟩ .f32) (i : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce FloatOps.maximumf x i h hu (ix4 a b c d) =
      Finset.univ.fold max (i (Shape.Idx.first hu)) fun k => x (ix5 a b c d k) := by
  simp only [pointwise]

/-- Started from −∞ over at least one real entry, it is a real number. -/
theorem real {n0 n1 n2 n3 n4 : ℕ} [NeZero n4] (x : FVec Ideal ⟨5, ![n0, n1, n2, n3, n4]⟩ .f32) (i : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) (hi : i (Shape.Idx.first hu) = (⊥ : EReal)) (f : Fin n4 → ℝ)
    (hx : ∀ k, x (ix5 a b c d k) = (f k : EReal)) :
    ∃ M : ℝ, max (⊥ : EReal)
      ((Host.reduce FloatOps.maximumf x i h hu : FVec Ideal ⟨4, ![n0, n1, n2, n3]⟩ .f32) (ix4 a b c d)) = M := by
  obtain ⟨M, hM⟩ := Softmax.fold_max_real f
  refine ⟨M, ?_⟩
  rw [apply, hi, max_eq_right bot_le, ← hM]
  exact congrArg (fun w => Finset.univ.fold max (⊥ : EReal) w) (funext hx)

end Cert.Proof.HostMax

end
-- ==== Proof.RefValue.lean ====
/-
  The reference's result on the prompt's rows: the attention of Spec.lean.
-/
module

public import proofs.«01_k».proof.Proof.Gen.ReferenceIdeal.Read
public import proofs.«01_k».proof.Proof.Spec
public import proofs.«01_k».proof.Proof.HostMax
public import Idealize.ShloMosaic.Lib.Pipeline.ValueKit

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.Proof

variable (q : FVec Ideal S8x32768x64 .f32) (k v : FVec Ideal S2x32768x64 .f32)

/-- The scores. -/
theorem score_eq (hq : Spec.Real q) (hk : Spec.Real k) (j : Fin 2) (g : Fin 4) (t u : Fin 16384) :
    (val_main_v9 (F := Ideal) q k) (ix5 0 j g t u) = ((Spec.score q k (Spec.groupHead j g) t (0 + u) : ℝ) : EReal) := by
  rw [zero_add, ← Spec.score_sum_ref hq hk, Spec.kvHead_group]
  pointwise [val_main_v9, val_main_v8, val_main_v7, val_main_v6, val_main_cst, val_main_v3, val_main_v2, val_main_v1,
    val_main_v0]
  simp only [Consts.eighth, Spec.tok_of_lt, Spec.groupHead_of]

/-- The shift of a query's scores is a real number. -/
theorem max_eq (hq : Spec.Real q) (hk : Spec.Real k) (j : Fin 2) (g : Fin 4) (t : Fin 16384) :
    ∃ M : ℝ, val_main_v12 (F := Ideal) q k (ix4 0 j g t) = (M : EReal) := by
  obtain ⟨M, hM⟩ := HostMax.real (val_main_v9 (F := Ideal) q k) (val_main_cst_0 (F := Ideal))
    reducesTo_S1x2x4x16384x16384_S1x2x4x16384_d4 h_S_ 0 j g t Consts.neg_inf _ (score_eq q k hq hk j g t)
  refine ⟨M, ?_⟩
  rw [← hM, val_main_v12_apply, val_main_v11_apply, val_main_cst_1_apply]
  exact congrArg (fun b => max b (val_main_v10 (F := Ideal) q k (ix4 0 j g t))) Consts.neg_inf

/-- The weighted values of a query. -/
theorem soft_eq (hq : Spec.Real q) (hk : Spec.Real k) (j : Fin 2) (g : Fin 4) (t : Fin 16384) (d : Fin 64) :
    (val_main_v21 (F := Ideal) q k v) (ix5 0 j d g t) = Spec.attn 16384 0 q k v (Spec.groupHead j g) t d := by
  pointwise [val_main_v21, val_main_v20, val_main_v19, val_main_v18, val_main_v17, val_main_cst_2, val_main_v16,
    val_main_v15, val_main_v14, val_main_v13, val_main_v5, val_main_v4]
  refine Spec.attn_of_shift 0 q k v _ _ d _ (max_eq q k hq hk j g t) _ _ (score_eq q k hq hk j g t) fun u => ?_
  rw [zero_add, Spec.kvHead_group, Spec.tok_of_lt]

/-- The result on the prompt's rows: the attention of the column's head, at the column's coordinate. -/
theorem result_eq (hq : Spec.Real q) (hk : Spec.Real k) (r : Fin 32768) (y : Fin 512) (hr : (r : ℕ) < 16384) :
    (val_main_v26 (F := Ideal) q k v) (ix2 r y) =
      Spec.attn 16384 0 q k v (Spec.colHead y) r (Spec.colCoord y) := by
  pointwise [val_main_v26, val_main_v25, val_main_v24, val_main_v23, val_main_v22]
  rw [dif_pos hr, soft_eq q k v hq hk, Spec.groupHead_col]
  rfl

end Cert.ReferenceIdeal.Read

end
-- ==== Proof.Ref2Value.lean ====
/-
  The second reference's result: on the rows of the four samples the attention of Spec.lean over the sample's own tokens,
  on the prompt's rows the array it was given.
-/
module

public import proofs.«01_k».proof.Proof.Gen.Reference2Ideal.Read
public import proofs.«01_k».proof.Proof.Spec
public import proofs.«01_k».proof.Proof.HostMax
public import Idealize.ShloMosaic.Lib.Pipeline.ValueKit

@[expose] public section

set_option maxRecDepth 16384

noncomputable section

namespace Cert.Reference2Ideal.Read

open Cert.Reference2Ideal Cert.Reference2Ideal.Gen Idealize.ShloMosaic Idealize.ShloMosaic.TcCoe Idealize.SL.Sem
open Cert.Proof

variable (q : FVec Ideal S8x32768x64 .f32) (k v : FVec Ideal S2x32768x64 .f32)

/-- The scores of a sample. -/
theorem score_eq (hq : Spec.Real q) (hk : Spec.Real k) (b : Fin 4) (j : Fin 2) (g : Fin 4) (t u : Fin 4096) :
    (val_main_v12 (F := Ideal) q k) (ix5 b j g t u) =
      ((Spec.score q k (Spec.groupHead j g) (Spec.start b + t) (Spec.start b + u) : ℝ) : EReal) := by
  rw [← Spec.score_sum_ref hq hk, Spec.kvHead_group]
  pointwise [val_main_v12, val_main_v11, val_main_v10, val_main_v9, val_main_cst, val_main_v5, val_main_v4, val_main_v3,
    val_main_v2, val_main_v1, val_main_v0]
  simp only [Consts.eighth, Spec.tok_of_lt, Spec.groupHead_of, Spec.start_add]

/-- The shift of a query's scores is a real number. -/
theorem max_eq (hq : Spec.Real q) (hk : Spec.Real k) (b : Fin 4) (j : Fin 2) (g : Fin 4) (t : Fin 4096) :
    ∃ M : ℝ, val_main_v15 (F := Ideal) q k (ix4 b j g t) = (M : EReal) := by
  obtain ⟨M, hM⟩ := HostMax.real (val_main_v12 (F := Ideal) q k) (val_main_cst_0 (F := Ideal))
    reducesTo_S4x2x4x4096x4096_S4x2x4x4096_d4 h_S_ b j g t Consts.neg_inf _ (score_eq q k hq hk b j g t)
  refine ⟨M, ?_⟩
  rw [← hM, val_main_v15_apply, val_main_v14_apply, val_main_cst_1_apply]
  exact congrArg (fun z => max z (val_main_v13 (F := Ideal) q k (ix4 b j g t))) Consts.neg_inf

/-- The weighted values of a query of a sample. -/
theorem soft_eq (hq : Spec.Real q) (hk : Spec.Real k) (b : Fin 4) (j : Fin 2) (g : Fin 4) (t : Fin 4096) (d : Fin 64) :
    (val_main_v24 (F := Ideal) q k v) (ix5 b j d g t) =
      Spec.attn 4096 (Spec.start b) q k v (Spec.groupHead j g) (Spec.start b + t) d := by
  pointwise [val_main_v24, val_main_v23, val_main_v22, val_main_v21, val_main_v20, val_main_cst_2, val_main_v19,
    val_main_v18, val_main_v17, val_main_v16, val_main_v8, val_main_v7, val_main_v6]
  refine Spec.attn_of_shift _ q k v _ _ d _ (max_eq q k hq hk b j g t) _ _ (score_eq q k hq hk b j g t) fun u => ?_
  rw [Spec.kvHead_group, Spec.tok_of_lt, Spec.start_add]

/-- The same, with the axes in the result's order. -/
theorem perm_eq (hq : Spec.Real q) (hk : Spec.Real k) (b : Fin 4) (t : Fin 4096) (j : Fin 2) (g : Fin 4) (d : Fin 64) :
    (val_main_v25 (F := Ideal) q k v) (ix5 b t j g d) =
      Spec.attn 4096 (Spec.start b) q k v (Spec.groupHead j g) (Spec.start b + t) d := by
  pointwise [val_main_v25]
  exact soft_eq q k v hq hk b j g t d

/-- The result. -/
theorem result_eq (prev : FVec Ideal S32768x512 .bf16) (hq : Spec.Real q) (hk : Spec.Real k) (r : Fin 32768) (y : Fin 512) :
    (val_main_v29 (F := Ideal) q k v prev) (ix2 r y) = Spec.sample q k v prev r y := by
  unfold Spec.sample
  pointwise [val_main_v29]
  by_cases hr : (r : ℕ) < 16384
  · rw [dif_pos hr, if_pos hr]
    pointwise [val_main_v27]
  · rw [dif_neg hr, if_neg hr]
    pointwise [val_main_v28]
    pointwise [val_main_v26]
    rw [perm_eq q k v hq hk, Spec.groupHead_col, Spec.start_row r hr]
    rfl

end Cert.Reference2Ideal.Read

end
-- ==== Proof.Pre.lean ====
/-
  The preconditions and the mask in plain words: the queries and keys are real numbers, and a row of the mask is one of
  the prompt's.
-/
module

public import proofs.«01_k».proof.Pre_finite_scores
public import proofs.«01_k».proof.Pre_finite_scores2
public import proofs.«01_k».proof.On_prompt_rows
public import proofs.«01_k».proof.Proof.Spec
public import proofs.«01_k».proof.Proof.Consts
public import Idealize.ShloMosaic.Lib.Pointwise
public import Idealize.ShloMosaic.Lib.WordCmp

@[expose] public section

set_option maxRecDepth 16384

noncomputable section

namespace Cert.Proof.Pre

open Idealize.ShloMosaic

/-- An extended real of absolute value below +∞ is a real number. -/
theorem real_of_abs (x : Ideal .f32)
    (h : BitVec.ofBool (decide (FloatOps.absf x < Ideal.ofBits FTy.f32 2139095040#32)) = 1#1) :
    x = (EReal.toReal x : EReal) := by
  rw [Consts.pos_inf] at h
  have h : max (x : EReal) (-x) < ⊤ := by
    by_contra hn
    rw [show decide ((FloatOps.absf x : EReal) < ⊤) = false from decide_eq_false hn] at h
    exact absurd h (by decide)
  have h1 : (x : EReal) ≠ ⊤ := (lt_of_le_of_lt (le_max_left _ _) h).ne
  have h2 : (x : EReal) ≠ ⊥ := fun e => (lt_of_le_of_lt (le_max_right _ _) h).ne (by rw [e]; rfl)
  exact (EReal.coe_toReal h1 h2).symm

/-- The first call's precondition: all queries and keys are real. -/
theorem real_qk [Cert.Pre_finite_scores.Facts] (q : FVec Ideal Cert.Pre_finite_scores.S8x32768x64 .f32)
    (k v : FVec Ideal Cert.Pre_finite_scores.S2x32768x64 .f32)
    (h : (Cert.Pre_finite_scores.fn (F := Ideal) q k v).1 = (fun _ => 1#1) ∧
      (Cert.Pre_finite_scores.fn (F := Ideal) q k v).2 = (fun _ => 1#1)) : Spec.Real q ∧ Spec.Real k := by
  refine ⟨fun i => ?_, fun i => ?_⟩
  · have h := congrFun h.1 i
    idx_vars i
    unfold Cert.Pre_finite_scores.fn at h
    dsimp only at h
    simp only [pointwise] at h
    exact real_of_abs _ h
  · have h := congrFun h.2 i
    idx_vars i
    unfold Cert.Pre_finite_scores.fn at h
    dsimp only at h
    simp only [pointwise] at h
    exact real_of_abs _ h

/-- The second call's precondition, the same. -/
theorem real_qk2 [Cert.Pre_finite_scores2.Facts] (q : FVec Ideal Cert.Pre_finite_scores2.S8x32768x64 .f32)
    (k v : FVec Ideal Cert.Pre_finite_scores2.S2x32768x64 .f32)
    (p : FVec Ideal Cert.Pre_finite_scores2.S32768x512 .bf16)
    (h : (Cert.Pre_finite_scores2.fn (F := Ideal) q k v p).1 = (fun _ => 1#1) ∧
      (Cert.Pre_finite_scores2.fn (F := Ideal) q k v p).2 = (fun _ => 1#1)) : Spec.Real q ∧ Spec.Real k := by
  refine ⟨fun i => ?_, fun i => ?_⟩
  · have h := congrFun h.1 i
    idx_vars i
    unfold Cert.Pre_finite_scores2.fn at h
    dsimp only at h
    simp only [pointwise] at h
    exact real_of_abs _ h
  · have h := congrFun h.2 i
    idx_vars i
    unfold Cert.Pre_finite_scores2.fn at h
    dsimp only at h
    simp only [pointwise] at h
    exact real_of_abs _ h

/-- The mask: a selected row is one of the prompt's. -/
theorem row_lt [Cert.On_prompt_rows.Facts] (q : FVec Ideal Cert.On_prompt_rows.S8x32768x64 .f32)
    (k v : FVec Ideal Cert.On_prompt_rows.S2x32768x64 .f32) (r : Fin 32768) (y : Fin 512)
    (h : Cert.On_prompt_rows.fn (F := Ideal) q k v (ix2 r y) = 1#1) : (r : ℕ) < 16384 := by
  unfold Cert.On_prompt_rows.fn at h
  dsimp only at h
  simp only [pointwise] at h
  have e := WordCmp.cmpi_slt_ofNat (w := 32) (a := (r : ℕ)) (b := 16384) (by omega) (by norm_num)
  rw [e] at h
  by_contra hn
  rw [decide_eq_false hn] at h
  exact absurd h (by decide)

end Cert.Proof.Pre

end
-- ==== Proof.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.ReferenceIdeal.Read
public import proofs.«01_k».proof.Proof.KernelValue
public import proofs.«01_k».proof.Proof.Kernel3Value
public import proofs.«01_k».proof.Proof.Ref3Value
public import proofs.«01_k».proof.Proof.Kernel2Value
public import proofs.«01_k».proof.Proof.RefValue
public import proofs.«01_k».proof.Proof.Ref2Value
public import proofs.«01_k».proof.Proof.Pre
public import proofs.«01_k».proof.Proof.Gen.Reference2Ideal.Read
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_scores
public import proofs.«01_k».proof.Proof.Gen.Pre_finite_scores2
public import proofs.«01_k».proof.Proof.Gen.On_prompt_rows
public import Idealize.ShloMosaic.Adequacy
public import Idealize.ShloMosaic.Init

@[expose] public section

noncomputable section

namespace Cert.Proof

open Idealize.ShloMosaic Idealize.SL.Sem Cert.Kernel

/-- The first reference runs, with its arguments and the counters as they were. -/
theorem frame_ref : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The second reference likewise. -/
theorem frame_ref2 : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- The prompt's call and its reference end with the same values on the prompt's rows. -/
theorem prompt_eq : Cert.algebraic_KernelIdeal_ReferenceIdeal_on_prompt_rows_pre_finite_scores := by
  intro m g m' g' hpre hagree
  refine ⟨fun c => Cert.ReferenceIdeal.Read.val_main_v26 (F := Ideal) (Cert.KernelIdeal.Value.argQ m c)
    (Cert.KernelIdeal.Value.argK m c) (Cert.KernelIdeal.Value.argV m c), ?_, ?_⟩
  · refine (θ_run Cert.KernelIdeal.defs _ _).mono (fun r h c => ⟨fun i hi => ?_, (h c).2⟩)
      (Cert.KernelIdeal.Value.run m g)
    obtain ⟨hq, hk⟩ := Pre.real_qk _ _ _ (hpre c)
    rw [(h c).1]
    obtain ⟨a, b, rfl⟩ : ∃ (a : Fin 32768) (b : Fin 512), i = ix2 a b := ⟨i 0, i 1, eq_ix2 i⟩
    have ha := Pre.row_lt _ _ _ a b hi
    refine Eq.trans ?_ (Cert.ReferenceIdeal.Read.result_eq _ _ _ hq hk a b ha).symm
    refine (if_pos ⟨Nat.zero_le _, ha, Nat.zero_le _, b.isLt⟩).trans ?_
    exact Cert.KernelIdeal.Value.G3_eq m c hq hk a b ha
  · refine (θ_run Cert.ReferenceIdeal.defs _ _).mono (fun r h c => ⟨fun i _ => ?_, (h c).2⟩)
      (Cert.ReferenceIdeal.Value.run m' g')
    rw [(h c).1, Cert.ReferenceIdeal.Read.val_main_v26_eq, (hagree c).1, (hagree c).2.1, (hagree c).2.2]

/-- The samples' call and its reference end with the same values. -/
theorem sample_eq : Cert.algebraic_Kernel2Ideal_Reference2Ideal_pre_finite_scores2 := by
  intro m g m' g' hpre hagree
  refine ⟨fun c => Cert.Reference2Ideal.Read.val_main_v29 (F := Ideal) (Cert.Kernel2Ideal.Value.argQ m c)
    (Cert.Kernel2Ideal.Value.argK m c) (Cert.Kernel2Ideal.Value.argV m c) (Cert.Kernel2Ideal.Value.argPrev m c), ?_, ?_⟩
  · refine (θ_run Cert.Kernel2Ideal.defs _ _).mono (fun r h c => ⟨?_, (h c).2⟩) (Cert.Kernel2Ideal.Value.run_blocks m g)
    obtain ⟨hq, hk⟩ := Pre.real_qk2 _ _ _ _ (hpre c)
    refine (h c).1.trans (funext fun i => ?_)
    obtain ⟨a, b, rfl⟩ : ∃ (a : Fin 32768) (b : Fin 512), i = ix2 a b := ⟨i 0, i 1, eq_ix2 i⟩
    exact (Cert.Kernel2Ideal.Value.result_eq m c hq hk a b).trans
      (Cert.Reference2Ideal.Read.result_eq _ _ _ _ hq hk a b).symm
  · refine (θ_run Cert.Reference2Ideal.defs _ _).mono (fun r h c => ⟨?_, (h c).2⟩) (Cert.Reference2Ideal.Value.run m' g')
    rw [(h c).1, Cert.Reference2Ideal.Read.val_main_v29_eq, (hagree c).1, (hagree c).2.1, (hagree c).2.2.1,
      (hagree c).2.2.2]

/-- The third reference likewise. -/
theorem frame_ref3 : Cert.quiescent_Reference3Ideal := fun m g _ =>
  (θ_run Cert.Reference3Ideal.defs _ _).mono
    (fun r h => ⟨fun c => (h c).2.2.2.2, sem_eq_zero_of_no_sems (by decide) r.2⟩) (Cert.Reference3Ideal.Value.run m g)

/-- The input projection's call and its reference end with the same values. -/
theorem inproj_eq : Cert.algebraic_Kernel3Ideal_Reference3Ideal := by
  intro m g m' g' _ hagree
  refine ⟨fun c => Cert.Reference3Ideal.Read.val_main_v63 (F := Ideal) (Cert.Kernel3Ideal.Value.argX m c)
      (Cert.Kernel3Ideal.Value.argMod m c) (Cert.Kernel3Ideal.Value.argG m c) (Cert.Kernel3Ideal.Value.argW m c),
    fun c => Cert.Reference3Ideal.Read.val_main_v56 (F := Ideal) (Cert.Kernel3Ideal.Value.argX m c)
      (Cert.Kernel3Ideal.Value.argMod m c) (Cert.Kernel3Ideal.Value.argG m c) (Cert.Kernel3Ideal.Value.argW m c),
    fun c => Cert.Reference3Ideal.Read.val_main_v57 (F := Ideal) (Cert.Kernel3Ideal.Value.argX m c)
      (Cert.Kernel3Ideal.Value.argMod m c) (Cert.Kernel3Ideal.Value.argG m c) (Cert.Kernel3Ideal.Value.argW m c),
    fun c => Cert.Reference3Ideal.Read.val_main_v70 (F := Ideal) (Cert.Kernel3Ideal.Value.argX m c)
      (Cert.Kernel3Ideal.Value.argMod m c) (Cert.Kernel3Ideal.Value.argG m c) (Cert.Kernel3Ideal.Value.argW m c), ?_, ?_⟩
  · refine (θ_run Cert.Kernel3Ideal.defs _ _).mono (fun r h c => ?_) (Cert.Kernel3Ideal.Value.run m g)
    obtain ⟨⟨hv, hp, hs, hg⟩, ha⟩ := h c
    refine ⟨hv.trans (funext fun (i : Cert.Kernel3Ideal.S2x80x32768.Idx) => ?_),
      hp.trans (funext fun (i : Cert.Kernel3Ideal.S32768x256.Idx) => ?_),
      hs.trans (funext fun (i : Cert.Kernel3Ideal.S32768x256.Idx) => ?_),
      hg.trans (funext fun (i : Cert.Kernel3Ideal.S32768x3072.Idx) => ?_), ha⟩
    · obtain ⟨a, b, d, rfl⟩ : ∃ (a : Fin 2) (b : Fin 80) (d : Fin 32768), i = ix3 a b d := ⟨i 0, i 1, i 2, eq_ix3 i⟩
      exact (Cert.Kernel3Ideal.Value.values_eq m c a b d).trans (Cert.Reference3Ideal.Read.values_eq _ _ _ _ a b d).symm
    · obtain ⟨a, b, rfl⟩ : ∃ (a : Fin 32768) (b : Fin 256), i = ix2 a b := ⟨i 0, i 1, eq_ix2 i⟩
      exact (Cert.Kernel3Ideal.Value.pool_eq m c a b).trans (Cert.Reference3Ideal.Read.pool_eq _ _ _ _ a b).symm
    · obtain ⟨a, b, rfl⟩ : ∃ (a : Fin 32768) (b : Fin 256), i = ix2 a b := ⟨i 0, i 1, eq_ix2 i⟩
      refine (Cert.Kernel3Ideal.Value.ssm_eq m c a b).trans (Eq.trans ?_ (Cert.Reference3Ideal.Read.ssm_eq _ _ _ _ a b).symm)
      exact congrArg (InProj.proj _ _ _ _ a) (Fin.ext (by show 768 + (256 + (b : ℕ)) = 1024 + b; omega))
    · obtain ⟨a, b, rfl⟩ : ∃ (a : Fin 32768) (b : Fin 3072), i = ix2 a b := ⟨i 0, i 1, eq_ix2 i⟩
      exact (Cert.Kernel3Ideal.Value.gates_eq m c a b).trans (Cert.Reference3Ideal.Read.gates_eq _ _ _ _ a b).symm
  · refine (θ_run Cert.Reference3Ideal.defs _ _).mono (fun r h c => ?_) (Cert.Reference3Ideal.Value.run m' g')
    obtain ⟨hv, hp, hs, hg, ha⟩ := h c
    obtain ⟨e0, e1, e2, e3, -⟩ := hagree c
    refine ⟨?_, ?_, ?_, ?_, ha⟩
    · rw [hv, Cert.Reference3Ideal.Read.val_main_v63_eq, e0, e1, e2, e3]
    · rw [hp, Cert.Reference3Ideal.Read.val_main_v56_eq, e0, e1, e2, e3]
    · rw [hs, Cert.Reference3Ideal.Read.val_main_v57_eq, e0, e1, e2, e3]
    · rw [hg, Cert.Reference3Ideal.Read.val_main_v70_eq, e0, e1, e2, e3]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_scores.Gen.facts,
    Cert.Pre_finite_scores2.Gen.facts, Cert.On_prompt_rows.Gen.facts,
    fun m g _ => Cert.Kernel.Gen.frame m g, fun m g _ => Cert.KernelIdeal.Gen.frame m g,
    fun m g _ => Cert.KernelIdeal.Gen.frame m g, frame_ref, fun m g _ => frame_ref m g trivial,
    fun m g _ => Cert.Kernel2.Gen.frame m g, fun m g _ => Cert.Kernel2Ideal.Gen.frame m g,
    fun m g _ => Cert.Kernel2Ideal.Gen.frame m g, frame_ref2, fun m g _ => frame_ref2 m g trivial,
    fun m g _ => Cert.Kernel3.Gen.frame m g (Cert.Kernel3.Value.ok m),
    fun m g _ => Cert.Kernel3Ideal.Gen.frame m g (Cert.Kernel3Ideal.Value.ok m), frame_ref3,
    trivial, prompt_eq, trivial, sample_eq, trivial, inproj_eq⟩

end Cert.Proof

end
